-- ==== Defs.lean ====
def Pre_Select (m : (ℓ : Loc Cert.Select.nD Cert.Select.τ Cert.Select.sig) → Buf (Elt Bits) ℓ) : Prop :=
  True

def Pre_Select_unsigned_untied [hPre_unsigned_untied : Cert.Pre_unsigned_untied.Facts] (m : (ℓ : Loc Cert.Select.nD Cert.Select.τ Cert.Select.sig) → Buf (Elt Bits) ℓ) : Prop :=
  ∀ c : Dev Cert.Select.nD,
    (Cert.Pre_unsigned_untied.fn (F := Bits) (m ((c.tc : Thread Cert.Select.nD Cert.Select.τ).loc Cert.Select.main_arg0))).1 = (fun _ => 1#1)
    ∧ (Cert.Pre_unsigned_untied.fn (F := Bits) (m ((c.tc : Thread Cert.Select.nD Cert.Select.τ).loc Cert.Select.main_arg0))).2 = (fun _ => 1#1)

def Pre_SelectRef [hPre_unsigned_untied : Cert.Pre_unsigned_untied.Facts] (m : (ℓ : Loc Cert.SelectRef.nD Cert.SelectRef.τ Cert.SelectRef.sig) → Buf (Elt Bits) ℓ) : Prop :=
  ∀ c : Dev Cert.SelectRef.nD,
    (Cert.Pre_unsigned_untied.fn (F := Bits) (m ((c.tc : Thread Cert.SelectRef.nD Cert.SelectRef.τ).loc Cert.SelectRef.main_arg0))).1 = (fun _ => 1#1)
    ∧ (Cert.Pre_unsigned_untied.fn (F := Bits) (m ((c.tc : Thread Cert.SelectRef.nD Cert.SelectRef.τ).loc Cert.SelectRef.main_arg0))).2 = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeRefIdeal (m : (ℓ : Loc Cert.EncodeRefIdeal.nD Cert.EncodeRefIdeal.τ Cert.EncodeRefIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeRefIdeal (m : (ℓ : Loc Cert.DecodeRefIdeal.nD Cert.DecodeRefIdeal.τ Cert.DecodeRefIdeal.sig) → Buf (Elt Ideal) ℓ) : Prop :=
  True

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_Select_pre_unsigned_untied [hSelect : Cert.Select.Facts] [hPre_unsigned_untied : Cert.Pre_unsigned_untied.Facts] : Prop :=
  ∀ (m : (ℓ : Loc Cert.Select.nD Cert.Select.τ Cert.Select.sig) → Buf (Elt Bits) ℓ) (g : Dev Cert.Select.nD → PrngReg), Pre_Select_unsigned_untied m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectRef [hSelectRef : Cert.SelectRef.Facts] [hPre_unsigned_untied : Cert.Pre_unsigned_untied.Facts] : Prop :=
  ∀ (m : (ℓ : Loc Cert.SelectRef.nD Cert.SelectRef.τ Cert.SelectRef.sig) → Buf (Elt Bits) ℓ) (g : Dev Cert.SelectRef.nD → PrngReg), Pre_SelectRef m →
    θ_run (Cert.SelectRef.defs (F := Bits)) (onTc (τ := Cert.SelectRef.τ) (Cert.SelectRef.main (F := Bits))) ⟨m, fun _ => 0, g⟩ (fun r => (∀ c : Dev Cert.SelectRef.nD,
      r.2.mem ((c.tc : Thread Cert.SelectRef.nD Cert.SelectRef.τ).loc Cert.SelectRef.main_arg0) = m ((c.tc : Thread Cert.SelectRef.nD Cert.SelectRef.τ).loc Cert.SelectRef.main_arg0))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3))
      ∧ r.2.sem = fun _ => 0)

def quiescent_EncodeRefIdeal [hEncodeRefIdeal : Cert.EncodeRefIdeal.Facts] : Prop :=
  ∀ (m : (ℓ : Loc Cert.EncodeRefIdeal.nD Cert.EncodeRefIdeal.τ Cert.EncodeRefIdeal.sig) → Buf (Elt Ideal) ℓ) (g : Dev Cert.EncodeRefIdeal.nD → PrngReg), Pre_EncodeRefIdeal m →
    θ_run (Cert.EncodeRefIdeal.defs (F := Ideal)) (onTc (τ := Cert.EncodeRefIdeal.τ) (Cert.EncodeRefIdeal.main (F := Ideal))) ⟨m, fun _ => 0, g⟩ (fun r => (∀ c : Dev Cert.EncodeRefIdeal.nD,
      r.2.mem ((c.tc : Thread Cert.EncodeRefIdeal.nD Cert.EncodeRefIdeal.τ).loc Cert.EncodeRefIdeal.main_arg0) = m ((c.tc : Thread Cert.EncodeRefIdeal.nD Cert.EncodeRefIdeal.τ).loc Cert.EncodeRefIdeal.main_arg0)
      ∧ r.2.mem ((c.tc : Thread Cert.EncodeRefIdeal.nD Cert.EncodeRefIdeal.τ).loc Cert.EncodeRefIdeal.main_arg1) = m ((c.tc : Thread Cert.EncodeRefIdeal.nD Cert.EncodeRefIdeal.τ).loc Cert.EncodeRefIdeal.main_arg1)
      ∧ r.2.mem ((c.tc : Thread Cert.EncodeRefIdeal.nD Cert.EncodeRefIdeal.τ).loc Cert.EncodeRefIdeal.main_arg2) = m ((c.tc : Thread Cert.EncodeRefIdeal.nD Cert.EncodeRefIdeal.τ).loc Cert.EncodeRefIdeal.main_arg2)
      ∧ r.2.mem ((c.tc : Thread Cert.EncodeRefIdeal.nD Cert.EncodeRefIdeal.τ).loc Cert.EncodeRefIdeal.main_arg3) = m ((c.tc : Thread Cert.EncodeRefIdeal.nD Cert.EncodeRefIdeal.τ).loc Cert.EncodeRefIdeal.main_arg3))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodeRefIdeal [hDecodeRefIdeal : Cert.DecodeRefIdeal.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3))
      ∧ r.2.sem = fun _ => 0)

def bitexact_Select_SelectRef_pre_unsigned_untied [hSelect : Cert.Select.Facts] [hSelectRef : Cert.SelectRef.Facts] [hPre_unsigned_untied : Cert.Pre_unsigned_untied.Facts] : Prop :=
  ∀ (m : (ℓ : Loc Cert.Select.nD Cert.Select.τ Cert.Select.sig) → Buf (Elt Bits) ℓ) (g : Dev Cert.Select.nD → PrngReg)
    (m' : (ℓ : Loc Cert.SelectRef.nD Cert.SelectRef.τ Cert.SelectRef.sig) → Buf (Elt Bits) ℓ) (g' : Dev Cert.SelectRef.nD → PrngReg), Pre_Select_unsigned_untied m →
    (∀ c : Dev Cert.Select.nD,
      m' ((c.tc : Thread Cert.SelectRef.nD Cert.SelectRef.τ).loc Cert.SelectRef.main_arg0) = m ((c.tc : Thread Cert.Select.nD Cert.Select.τ).loc Cert.Select.main_arg0)) →
    ∃ (v0 : (c : Dev Cert.Select.nD) → Buf (Elt Bits) ((c.tc : Thread Cert.Select.nD Cert.Select.τ).loc Cert.Select.main_v0_0)) (v1 : (c : Dev Cert.Select.nD) → Buf (Elt Bits) ((c.tc : Thread Cert.Select.nD Cert.Select.τ).loc Cert.Select.main_v2)),
      θ_run (Cert.Select.defs (F := Bits)) (onTc (τ := Cert.Select.τ) (Cert.Select.main (F := Bits))) ⟨m, fun _ => 0, g⟩ (fun r => ∀ c : Dev Cert.Select.nD,
          r.2.mem ((c.tc : Thread Cert.Select.nD Cert.Select.τ).loc Cert.Select.main_v0_0) = v0 c
          ∧ r.2.mem ((c.tc : Thread Cert.Select.nD Cert.Select.τ).loc Cert.Select.main_v2) = v1 c
          ∧ r.2.mem ((c.tc : Thread Cert.Select.nD Cert.Select.τ).loc Cert.Select.main_arg0) = m ((c.tc : Thread Cert.Select.nD Cert.Select.τ).loc Cert.Select.main_arg0))
      ∧ θ_run (Cert.SelectRef.defs (F := Bits)) (onTc (τ := Cert.SelectRef.τ) (Cert.SelectRef.main (F := Bits))) ⟨m', fun _ => 0, g'⟩ (fun r => ∀ c : Dev Cert.SelectRef.nD,
          r.2.mem ((c.tc : Thread Cert.SelectRef.nD Cert.SelectRef.τ).loc Cert.SelectRef.main_v17) = v0 c
          ∧ r.2.mem ((c.tc : Thread Cert.SelectRef.nD Cert.SelectRef.τ).loc Cert.SelectRef.main_v23) = v1 c
          ∧ r.2.mem ((c.tc : Thread Cert.SelectRef.nD Cert.SelectRef.τ).loc Cert.SelectRef.main_arg0) = m' ((c.tc : Thread Cert.SelectRef.nD Cert.SelectRef.τ).loc Cert.SelectRef.main_arg0))

def preserves_Encode_EncodeIdeal : Prop :=
  True

def algebraic_EncodeIdeal_EncodeRefIdeal [hEncodeIdeal : Cert.EncodeIdeal.Facts] [hEncodeRefIdeal : Cert.EncodeRefIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeRefIdeal.nD Cert.EncodeRefIdeal.τ Cert.EncodeRefIdeal.sig) → Buf (Elt Ideal) ℓ) (g' : Dev Cert.EncodeRefIdeal.nD → PrngReg), Pre_EncodeIdeal m →
    (∀ c : Dev Cert.EncodeIdeal.nD,
      m' ((c.tc : Thread Cert.EncodeRefIdeal.nD Cert.EncodeRefIdeal.τ).loc Cert.EncodeRefIdeal.main_arg0) = m ((c.tc : Thread Cert.EncodeIdeal.nD Cert.EncodeIdeal.τ).loc Cert.EncodeIdeal.main_arg0)
      ∧ m' ((c.tc : Thread Cert.EncodeRefIdeal.nD Cert.EncodeRefIdeal.τ).loc Cert.EncodeRefIdeal.main_arg1) = m ((c.tc : Thread Cert.EncodeIdeal.nD Cert.EncodeIdeal.τ).loc Cert.EncodeIdeal.main_arg1)
      ∧ m' ((c.tc : Thread Cert.EncodeRefIdeal.nD Cert.EncodeRefIdeal.τ).loc Cert.EncodeRefIdeal.main_arg2) = m ((c.tc : Thread Cert.EncodeIdeal.nD Cert.EncodeIdeal.τ).loc Cert.EncodeIdeal.main_arg2)
      ∧ m' ((c.tc : Thread Cert.EncodeRefIdeal.nD Cert.EncodeRefIdeal.τ).loc Cert.EncodeRefIdeal.main_arg3) = m ((c.tc : Thread Cert.EncodeIdeal.nD Cert.EncodeIdeal.τ).loc Cert.EncodeIdeal.main_arg3)) →
    ∃ (v0 : (c : Dev Cert.EncodeIdeal.nD) → Buf (Elt Ideal) ((c.tc : Thread Cert.EncodeIdeal.nD Cert.EncodeIdeal.τ).loc Cert.EncodeIdeal.main_v2)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v2) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3))
      ∧ θ_run (Cert.EncodeRefIdeal.defs (F := Ideal)) (onTc (τ := Cert.EncodeRefIdeal.τ) (Cert.EncodeRefIdeal.main (F := Ideal))) ⟨m', fun _ => 0, g'⟩ (fun r => ∀ c : Dev Cert.EncodeRefIdeal.nD,
          r.2.mem ((c.tc : Thread Cert.EncodeRefIdeal.nD Cert.EncodeRefIdeal.τ).loc Cert.EncodeRefIdeal.main_v8) = v0 c
          ∧ r.2.mem ((c.tc : Thread Cert.EncodeRefIdeal.nD Cert.EncodeRefIdeal.τ).loc Cert.EncodeRefIdeal.main_arg0) = m' ((c.tc : Thread Cert.EncodeRefIdeal.nD Cert.EncodeRefIdeal.τ).loc Cert.EncodeRefIdeal.main_arg0)
          ∧ r.2.mem ((c.tc : Thread Cert.EncodeRefIdeal.nD Cert.EncodeRefIdeal.τ).loc Cert.EncodeRefIdeal.main_arg1) = m' ((c.tc : Thread Cert.EncodeRefIdeal.nD Cert.EncodeRefIdeal.τ).loc Cert.EncodeRefIdeal.main_arg1)
          ∧ r.2.mem ((c.tc : Thread Cert.EncodeRefIdeal.nD Cert.EncodeRefIdeal.τ).loc Cert.EncodeRefIdeal.main_arg2) = m' ((c.tc : Thread Cert.EncodeRefIdeal.nD Cert.EncodeRefIdeal.τ).loc Cert.EncodeRefIdeal.main_arg2)
          ∧ r.2.mem ((c.tc : Thread Cert.EncodeRefIdeal.nD Cert.EncodeRefIdeal.τ).loc Cert.EncodeRefIdeal.main_arg3) = m' ((c.tc : Thread Cert.EncodeRefIdeal.nD Cert.EncodeRefIdeal.τ).loc Cert.EncodeRefIdeal.main_arg3))

def preserves_Decode_DecodeIdeal : Prop :=
  True

def algebraic_DecodeIdeal_DecodeRefIdeal [hDecodeIdeal : Cert.DecodeIdeal.Facts] [hDecodeRefIdeal : Cert.DecodeRefIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeRefIdeal.nD Cert.DecodeRefIdeal.τ Cert.DecodeRefIdeal.sig) → Buf (Elt Ideal) ℓ) (g' : Dev Cert.DecodeRefIdeal.nD → PrngReg), Pre_DecodeIdeal m →
    (∀ c : Dev Cert.DecodeIdeal.nD,
      m' ((c.tc : Thread Cert.DecodeRefIdeal.nD Cert.DecodeRefIdeal.τ).loc Cert.DecodeRefIdeal.main_arg0) = m ((c.tc : Thread Cert.DecodeIdeal.nD Cert.DecodeIdeal.τ).loc Cert.DecodeIdeal.main_arg0)
      ∧ m' ((c.tc : Thread Cert.DecodeRefIdeal.nD Cert.DecodeRefIdeal.τ).loc Cert.DecodeRefIdeal.main_arg1) = m ((c.tc : Thread Cert.DecodeIdeal.nD Cert.DecodeIdeal.τ).loc Cert.DecodeIdeal.main_arg1)
      ∧ m' ((c.tc : Thread Cert.DecodeRefIdeal.nD Cert.DecodeRefIdeal.τ).loc Cert.DecodeRefIdeal.main_arg2) = m ((c.tc : Thread Cert.DecodeIdeal.nD Cert.DecodeIdeal.τ).loc Cert.DecodeIdeal.main_arg2)
      ∧ m' ((c.tc : Thread Cert.DecodeRefIdeal.nD Cert.DecodeRefIdeal.τ).loc Cert.DecodeRefIdeal.main_arg3) = m ((c.tc : Thread Cert.DecodeIdeal.nD Cert.DecodeIdeal.τ).loc Cert.DecodeIdeal.main_arg3)) →
    ∃ (v0 : (c : Dev Cert.DecodeIdeal.nD) → Buf (Elt Ideal) ((c.tc : Thread Cert.DecodeIdeal.nD Cert.DecodeIdeal.τ).loc Cert.DecodeIdeal.main_v2_0)) (v1 : (c : Dev Cert.DecodeIdeal.nD) → Buf (Elt Ideal) ((c.tc : Thread Cert.DecodeIdeal.nD Cert.DecodeIdeal.τ).loc Cert.DecodeIdeal.main_v4)) (v2 : (c : Dev Cert.DecodeIdeal.nD) → Buf (Elt Ideal) ((c.tc : Thread Cert.DecodeIdeal.nD Cert.DecodeIdeal.τ).loc Cert.DecodeIdeal.main_v13)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v2_0) = v0 c
          ∧ r.2.mem ((c.tc : Thread Cert.DecodeIdeal.nD Cert.DecodeIdeal.τ).loc Cert.DecodeIdeal.main_v4) = v1 c
          ∧ r.2.mem ((c.tc : Thread Cert.DecodeIdeal.nD Cert.DecodeIdeal.τ).loc Cert.DecodeIdeal.main_v13) = v2 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ θ_run (Cert.DecodeRefIdeal.defs (F := Ideal)) (onTc (τ := Cert.DecodeRefIdeal.τ) (Cert.DecodeRefIdeal.main (F := Ideal))) ⟨m', fun _ => 0, g'⟩ (fun r => ∀ c : Dev Cert.DecodeRefIdeal.nD,
          r.2.mem ((c.tc : Thread Cert.DecodeRefIdeal.nD Cert.DecodeRefIdeal.τ).loc Cert.DecodeRefIdeal.main_v4) = v0 c
          ∧ r.2.mem ((c.tc : Thread Cert.DecodeRefIdeal.nD Cert.DecodeRefIdeal.τ).loc Cert.DecodeRefIdeal.main_v8) = v1 c
          ∧ r.2.mem ((c.tc : Thread Cert.DecodeRefIdeal.nD Cert.DecodeRefIdeal.τ).loc Cert.DecodeRefIdeal.main_v22) = v2 c
          ∧ r.2.mem ((c.tc : Thread Cert.DecodeRefIdeal.nD Cert.DecodeRefIdeal.τ).loc Cert.DecodeRefIdeal.main_arg0) = m' ((c.tc : Thread Cert.DecodeRefIdeal.nD Cert.DecodeRefIdeal.τ).loc Cert.DecodeRefIdeal.main_arg0)
          ∧ r.2.mem ((c.tc : Thread Cert.DecodeRefIdeal.nD Cert.DecodeRefIdeal.τ).loc Cert.DecodeRefIdeal.main_arg1) = m' ((c.tc : Thread Cert.DecodeRefIdeal.nD Cert.DecodeRefIdeal.τ).loc Cert.DecodeRefIdeal.main_arg1)
          ∧ r.2.mem ((c.tc : Thread Cert.DecodeRefIdeal.nD Cert.DecodeRefIdeal.τ).loc Cert.DecodeRefIdeal.main_arg2) = m' ((c.tc : Thread Cert.DecodeRefIdeal.nD Cert.DecodeRefIdeal.τ).loc Cert.DecodeRefIdeal.main_arg2)
          ∧ r.2.mem ((c.tc : Thread Cert.DecodeRefIdeal.nD Cert.DecodeRefIdeal.τ).loc Cert.DecodeRefIdeal.main_arg3) = m' ((c.tc : Thread Cert.DecodeRefIdeal.nD Cert.DecodeRefIdeal.τ).loc Cert.DecodeRefIdeal.main_arg3))

def Claim : Prop :=
  ∃ (hSelect : Cert.Select.Facts) (hSelectRef : Cert.SelectRef.Facts) (hEncode : Cert.Encode.Facts) (hEncodeIdeal : Cert.EncodeIdeal.Facts) (hEncodeRefIdeal : Cert.EncodeRefIdeal.Facts) (hDecode : Cert.Decode.Facts) (hDecodeIdeal : Cert.DecodeIdeal.Facts) (hDecodeRefIdeal : Cert.DecodeRefIdeal.Facts) (hPre_unsigned_untied : Cert.Pre_unsigned_untied.Facts),
    quiescent_Select (hSelect := hSelect)
    ∧ quiescent_Select_pre_unsigned_untied (hSelect := hSelect) (hPre_unsigned_untied := hPre_unsigned_untied)
    ∧ quiescent_SelectRef (hSelectRef := hSelectRef) (hPre_unsigned_untied := hPre_unsigned_untied)
    ∧ quiescent_Encode (hEncode := hEncode)
    ∧ quiescent_EncodeIdeal (hEncodeIdeal := hEncodeIdeal)
    ∧ quiescent_EncodeRefIdeal (hEncodeRefIdeal := hEncodeRefIdeal)
    ∧ quiescent_Decode (hDecode := hDecode)
    ∧ quiescent_DecodeIdeal (hDecodeIdeal := hDecodeIdeal)
    ∧ quiescent_DecodeRefIdeal (hDecodeRefIdeal := hDecodeRefIdeal)
    ∧ bitexact_Select_SelectRef_pre_unsigned_untied (hSelect := hSelect) (hSelectRef := hSelectRef) (hPre_unsigned_untied := hPre_unsigned_untied)
    ∧ preserves_Encode_EncodeIdeal
    ∧ algebraic_EncodeIdeal_EncodeRefIdeal (hEncodeIdeal := hEncodeIdeal) (hEncodeRefIdeal := hEncodeRefIdeal)
    ∧ preserves_Decode_DecodeIdeal
    ∧ algebraic_DecodeIdeal_DecodeRefIdeal (hDecodeIdeal := hDecodeIdeal) (hDecodeRefIdeal := hDecodeRefIdeal)
-- ==== Pre_unsigned_untied.lean ====
abbrev S8192x24576 : Shape := ⟨2, ![8192, 24576]⟩
abbrev S8192x65 : Shape := ⟨2, ![8192, 65]⟩
abbrev S8192x1 : Shape := ⟨2, ![8192, 1]⟩
abbrev S8192 : Shape := ⟨1, ![8192]⟩
abbrev S_ : Shape := ⟨0, ![]⟩

class Facts : Prop where
  sliceFits_S8192x24576_S8192x65 : S8192x24576.Slices (fun _ => 0) S8192x65
  slices_S8192x65_S8192x1_0_63 : S8192x65.Slices ![0, 63] S8192x1
  shapeCasts_S8192x1_S8192 : S8192x1.ShapeCasts S8192
  slices_S8192x65_S8192x1_0_64 : S8192x65.Slices ![0, 64] S8192x1
  bcast_S_S8192x24576 : S_.BroadcastsInDim S8192x24576 (![] : Fin 0 → Fin S8192x24576.rank)
  reducesTo_S8192x24576_S_d0_1 : S8192x24576.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [BitOps F] (main_arg0 : FVec F S8192x24576 .f32) : IVec S_ 1 × IVec S_ 1 :=
  let main_v0 : IVec S8192x24576 32 := bitcastToInt main_arg0
  let main_values : FVec F S8192x65 .f32 := (fun x => (Host.topK S8192x65 1 (FloatOps.cmpfTotal .gt) x sliceFits_S8192x24576_S8192x65).1) main_arg0
  let main_indices : IVec S8192x65 32 := (fun x => (Host.topK S8192x65 1 (FloatOps.cmpfTotal .gt) x sliceFits_S8192x24576_S8192x65).2) main_arg0
  let main_v1 : IVec S8192x65 32 := bitcastToInt main_values
  let main_v2 : IVec S8192x1 32 := (extractStridedSlice S8192x1 ![0, 63] · slices_S8192x65_S8192x1_0_63) main_v1
  let main_v3 : IVec S8192 32 := shapeCast S8192 main_v2 shapeCasts_S8192x1_S8192
  let main_v4 : IVec S8192x1 32 := (extractStridedSlice S8192x1 ![0, 64] · slices_S8192x65_S8192x1_0_64) main_v1
  let main_v5 : IVec S8192 32 := shapeCast S8192 main_v4 shapeCasts_S8192x1_S8192
  let main_c : IVec S_ 32 := constantI S_ 32 0#32
  let main_v6 : IVec S8192x24576 32 := broadcastInDim S8192x24576 ![] bcast_S_S8192x24576 main_c
  let main_v7 : IVec S8192x24576 1 := cmpi .sge main_v0 main_v6
  let main_c_0 : IVec S_ 1 := constantI S_ 1 1#1
  let main_v8 : IVec S_ 1 := (fun x v => Host.reduce IntOp.andi x v reducesTo_S8192x24576_S_d0_1 h_S_) main_v7 main_c_0
  let main_v9 : IVec S8192 1 := cmpi .sgt main_v3 main_v5
  let main_c_1 : IVec S_ 32 := constantI S_ 32 0#32
  let main_v10 : IVec S8192 32 := broadcastInDim S8192 ![] bcast_S_S8192 main_c_1
  let main_v11 : IVec S8192 1 := cmpi .eq main_v3 main_v10
  let main_v12 : IVec S8192 1 := ori main_v9 main_v11
  let main_c_2 : IVec S_ 1 := constantI S_ 1 1#1
  let main_v13 : IVec S_ 1 := (fun x v => Host.reduce IntOp.andi x v reducesTo_S8192_S_d0 h_S_) main_v12 main_c_2
  (main_v8, main_v13)
-- ==== Select.lean ====
abbrev S8192x24576 : Shape := ⟨2, ![8192, 24576]⟩
abbrev S1x1 : Shape := ⟨2, ![1, 1]⟩
abbrev S64x24576 : Shape := ⟨2, ![64, 24576]⟩
abbrev S64x1536 : Shape := ⟨2, ![64, 1536]⟩
abbrev S64x1 : Shape := ⟨2, ![64, 1]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S1x64x24576 : Shape := ⟨3, ![1, 64, 24576]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S8192x24576, .f32⟩
  | .hbm, ⟨1, _⟩ => ⟨S8192x24576, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S64x24576, .f32⟩
  | .local _ .vmem, ⟨1, _⟩ => ⟨S64x24576, .f32⟩
  | .local _ .vmem, ⟨2, _⟩ => ⟨S64x24576, .f32⟩
  | .local _ .vmem, ⟨3, _⟩ => ⟨S64x24576, .f32⟩
  | .local _ .vmem, ⟨4, _⟩ => ⟨S1x1, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [BitOps F]

abbrev grid0 : Pipeline.Grid := ⟨1, ![128], ![false]⟩

@[reducible] def k0_t1_loop : Scf.Loop 32 :=
  let c0_i32_1 : BitVec 32 := 0#32
  let c31_i32 : BitVec 32 := 31#32
  let v136 : BitVec 32 := Scalar.addi c0_i32_1 c31_i32
  let c1_i32 : BitVec 32 := 1#32
  ⟨c0_i32_1, v136, c1_i32⟩
@[reducible] def k0_t2_loop : Scf.Loop 32 :=
  let c0_i32_21 : BitVec 32 := 0#32
  let c31_i32_22 : BitVec 32 := 31#32
  let v178 : BitVec 32 := Scalar.addi c0_i32_21 c31_i32_22
  let c1_i32_23 : BitVec 32 := 1#32
  ⟨c0_i32_21, v178, c1_i32_23⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x24576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SelectRef.lean ====
abbrev S8192x24576 : Shape := ⟨2, ![8192, 24576]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S8192x64x1 : Shape := ⟨3, ![8192, 64, 1]⟩
abbrev S8192x64x2 : Shape := ⟨3, ![8192, 64, 2]⟩

abbrev nBuf : Space → Nat
  | .hbm => 35
  | .vmem => 0
  | .smem => 0
  | _ => 0

abbrev bufTy : (tb : Table) → Fin (tcTables nBuf tb) → BufTy
  | .hbm, ⟨0, _⟩ => ⟨S8192x24576, .f32⟩
  | .hbm, ⟨1, _⟩ => ⟨S8192x64, .f32⟩
  | .hbm, ⟨2, _⟩ => ⟨S8192x64, .i32⟩
  | .hbm, ⟨3, _⟩ => ⟨S8192, .i32⟩
  | .hbm, ⟨4, _⟩ => ⟨S8192x1, .i32⟩
  | .hbm, ⟨5, _⟩ => ⟨S_, .f32⟩
  | .hbm, ⟨6, _⟩ => ⟨S8192x24576, .f32⟩
  | .hbm, ⟨7, _⟩ => ⟨S_, .i32⟩
  | .hbm, ⟨8, _⟩ => ⟨S8192x1, .i32⟩
  | .hbm, ⟨9, _⟩ => ⟨S8192x1, .i1⟩
  | .hbm, ⟨10, _⟩ => ⟨S_, .i32⟩
  | .hbm, ⟨11, _⟩ => ⟨S8192x1, .i32⟩
  | .hbm, ⟨12, _⟩ => ⟨S8192x1, .i32⟩
  | .hbm, ⟨13, _⟩ => ⟨S8192x1, .i32⟩
  | .hbm, ⟨14, _⟩ => ⟨S_, .i32⟩
  | .hbm, ⟨15, _⟩ => ⟨S8192x64, .i32⟩
  | .hbm, ⟨16, _⟩ => ⟨S8192x64, .i1⟩
  | .hbm, ⟨17, _⟩ => ⟨S_, .i32⟩
  | .hbm, ⟨18, _⟩ => ⟨S8192x64, .i32⟩
  | .hbm, ⟨19, _⟩ => ⟨S8192x64, .i32⟩
  | .hbm, ⟨20, _⟩ => ⟨S8192x64, .i32⟩
  | .hbm, ⟨21, _⟩ => ⟨S8192x64, .i32⟩
  | .hbm, ⟨22, _⟩ => ⟨S8192x64x1, .i32⟩
  | .hbm, ⟨23, _⟩ => ⟨S8192x64x1, .i32⟩
  | .hbm, ⟨24, _⟩ => ⟨S8192x64x2, .i32⟩
  | .hbm, ⟨25, _⟩ => ⟨S8192x24576, .f32⟩
  | .hbm, ⟨26, _⟩ => ⟨S_, .f32⟩
  | .hbm, ⟨27, _⟩ => ⟨S8192x24576, .f32⟩
  | .hbm, ⟨28, _⟩ => ⟨S8192x24576, .i1⟩
  | .hbm, ⟨29, _⟩ => ⟨S8192x24576, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | _, _ => ⟨S8192x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Encode.lean ====
abbrev S8192x768 : Shape := ⟨2, ![8192, 768]⟩
abbrev S24576x768 : Shape := ⟨2, ![24576, 768]⟩
abbrev S24576 : Shape := ⟨1, ![24576]⟩
abbrev S768 : Shape := ⟨1, ![768]⟩
abbrev S1x24576 : Shape := ⟨2, ![1, 24576]⟩
abbrev S1x768 : Shape := ⟨2, ![1, 768]⟩
abbrev S8192x24576 : Shape := ⟨2, ![8192, 24576]⟩
abbrev S512x768 : Shape := ⟨2, ![512, 768]⟩
abbrev S2048x768 : Shape := ⟨2, ![2048, 768]⟩
abbrev S1x2048 : Shape := ⟨2, ![1, 2048]⟩
abbrev S512x2048 : Shape := ⟨2, ![512, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S24576x768, .f32⟩
  | .hbm, ⟨2, _⟩ => ⟨S24576, .f32⟩
  | .hbm, ⟨3, _⟩ => ⟨S768, .f32⟩
  | .hbm, ⟨4, _⟩ => ⟨S1x24576, .f32⟩
  | .hbm, ⟨5, _⟩ => ⟨S1x768, .f32⟩
  | .hbm, ⟨6, _⟩ => ⟨S8192x24576, .f32⟩
  | .local _ .vmem, ⟨0, _⟩ => ⟨S512x768, .f32⟩
  | .local _ .vmem, ⟨1, _⟩ => ⟨S512x768, .f32⟩
  | .local _ .vmem, ⟨2, _⟩ => ⟨S2048x768, .f32⟩
  | .local _ .vmem, ⟨3, _⟩ => ⟨S2048x768, .f32⟩
  | .local _ .vmem, ⟨4, _⟩ => ⟨S1x2048, .f32⟩
  | .local _ .vmem, ⟨5, _⟩ => ⟨S1x2048, .f32⟩
  | .local _ .vmem, ⟨6, _⟩ => ⟨S1x768, .f32⟩
  | .local _ .vmem, ⟨7, _⟩ => ⟨S512x2048, .f32⟩
  | .local _ .vmem, ⟨8, _⟩ => ⟨S512x2048, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EncodeRefIdeal.lean ====
abbrev S8192x768 : Shape := ⟨2, ![8192, 768]⟩
abbrev S24576x768 : Shape := ⟨2, ![24576, 768]⟩
abbrev S24576 : Shape := ⟨1, ![24576]⟩
abbrev S768 : Shape := ⟨1, ![768]⟩
abbrev S1x768 : Shape := ⟨2, ![1, 768]⟩
abbrev S768x24576 : Shape := ⟨2, ![768, 24576]⟩
abbrev S8192x24576 : Shape := ⟨2, ![8192, 24576]⟩
abbrev S1x24576 : Shape := ⟨2, ![1, 24576]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S24576x768, .f32⟩
  | .hbm, ⟨2, _⟩ => ⟨S24576, .f32⟩
  | .hbm, ⟨3, _⟩ => ⟨S768, .f32⟩
  | .hbm, ⟨4, _⟩ => ⟨S1x768, .f32⟩
  | .hbm, ⟨5, _⟩ => ⟨S8192x768, .f32⟩
  | .hbm, ⟨6, _⟩ => ⟨S8192x768, .f32⟩
  | .hbm, ⟨7, _⟩ => ⟨S768x24576, .f32⟩
  | .hbm, ⟨8, _⟩ => ⟨S8192x24576, .f32⟩
  | .hbm, ⟨9, _⟩ => ⟨S1x24576, .f32⟩
  | .hbm, ⟨10, _⟩ => ⟨S8192x24576, .f32⟩
  | .hbm, ⟨11, _⟩ => ⟨S8192x24576, .f32⟩
  | .hbm, ⟨12, _⟩ => ⟨S_, .f32⟩
  | .hbm, ⟨13, _⟩ => ⟨S8192x24576, .f32⟩
  | .hbm, ⟨14, _⟩ => ⟨S8192x24576, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Decode.lean ====
abbrev S8192x24576 : Shape := ⟨2, ![8192, 24576]⟩
abbrev S768x24576 : Shape := ⟨2, ![768, 24576]⟩
abbrev S8192x768 : Shape := ⟨2, ![8192, 768]⟩
abbrev S768 : Shape := ⟨1, ![768]⟩
abbrev S1x768 : Shape := ⟨2, ![1, 768]⟩
abbrev S1x1 : Shape := ⟨2, ![1, 1]⟩
abbrev S1024x2048 : Shape := ⟨2, ![1024, 2048]⟩
abbrev S768x2048 : Shape := ⟨2, ![768, 2048]⟩
abbrev S1024x768 : Shape := ⟨2, ![1024, 768]⟩
abbrev S1x1024x768 : Shape := ⟨3, ![1, 1024, 768]⟩
abbrev S1 : Shape := ⟨1, ![1]⟩
abbrev S1x1x1 : Shape := ⟨3, ![1, 1, 1]⟩
abbrev S_ : Shape := ⟨0, ![]⟩

abbrev nBuf : Space → Nat
  | .hbm => 26
  | .vmem => 12
  | .smem => 0
  | _ => 0

abbrev bufTy : (tb : Table) → Fin (tcTables nBuf tb) → BufTy
  | .hbm, ⟨0, _⟩ => ⟨S8192x24576, .f32⟩
  | .hbm, ⟨1, _⟩ => ⟨S768x24576, .f32⟩
  | .hbm, ⟨2, _⟩ => ⟨S8192x768, .f32⟩
  | .hbm, ⟨3, _⟩ => ⟨S768, .f32⟩
  | .hbm, ⟨4, _⟩ => ⟨S768x24576, .bf16⟩
  | .hbm, ⟨5, _⟩ => ⟨S1x768, .f32⟩
  | .hbm, ⟨6, _⟩ => ⟨S8192x768, .f32⟩
  | .hbm, ⟨7, _⟩ => ⟨S1x1, .f32⟩
  | .hbm, ⟨8, _⟩ => ⟨S1x768, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x768, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S1x768, .f32⟩
  | .local _ .vmem, ⟨7, _⟩ => ⟨S1024x768, .f32⟩
  | .local _ .vmem, ⟨8, _⟩ => ⟨S1024x768, .f32⟩
  | .local _ .vmem, ⟨9, _⟩ => ⟨S1x1, .f32⟩
  | .local _ .vmem, ⟨10, _⟩ => ⟨S1x768, .f32⟩
  | .local _ .vmem, ⟨11, _⟩ => ⟨S1x1, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c11_i32 : BitVec 32 := 11#32
  let v16 : BitVec 1 := Scalar.cmpi .eq arg1 c11_i32
  let v17 : BitVec 32 := Scalar.extui v16
  let c0_i32_9 : BitVec 32 := 0#32
  let v18 : BitVec 1 := Scalar.cmpi .ne v17 c0_i32_9
  v18

def k0_cond3 (i : grid0.Coords) : BitVec 1 :=
  let arg0 : BitVec 32 := BitVec.ofNat 32 (i 0).val
  let c0_i32_6 : BitVec 32 := 0#32
  let v11 : BitVec 1 := Scalar.cmpi .eq arg0 c0_i32_6
  let arg1 : BitVec 32 := BitVec.ofNat 32 (i 1).val
  let c0_i32_7 : BitVec 32 := 0#32
  let v12 : BitVec 1 := Scalar.cmpi .eq arg1 c0_i32_7
  let v13 : BitVec 1 := Scalar.andi v11 v12
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DecodeRefIdeal.lean ====
abbrev S8192x24576 : Shape := ⟨2, ![8192, 24576]⟩
abbrev S768x24576 : Shape := ⟨2, ![768, 24576]⟩
abbrev S8192x768 : Shape := ⟨2, ![8192, 768]⟩
abbrev S768 : Shape := ⟨1, ![768]⟩
abbrev S24576x768 : Shape := ⟨2, ![24576, 768]⟩
abbrev S1x768 : Shape := ⟨2, ![1, 768]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x24576, .f32⟩
  | .hbm, ⟨1, _⟩ => ⟨S768x24576, .f32⟩
  | .hbm, ⟨2, _⟩ => ⟨S8192x768, .f32⟩
  | .hbm, ⟨3, _⟩ => ⟨S768, .f32⟩
  | .hbm, ⟨4, _⟩ => ⟨S24576x768, .f32⟩
  | .hbm, ⟨5, _⟩ => ⟨S8192x768, .f32⟩
  | .hbm, ⟨6, _⟩ => ⟨S1x768, .f32⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S8192x768, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S768, .f32⟩
  | .hbm, ⟨17, _⟩ => ⟨S1x768, .f32⟩
  | .hbm, ⟨18, _⟩ => ⟨S_, .f32⟩
  | .hbm, ⟨19, _⟩ => ⟨S1x768, .f32⟩
  | .hbm, ⟨20, _⟩ => ⟨S1x768, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S_, .f32⟩
  | .hbm, ⟨25, _⟩ => ⟨S_, .f32⟩
  | .hbm, ⟨26, _⟩ => ⟨S8192x768, .f32⟩
  | .hbm, ⟨27, _⟩ => ⟨S8192x768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.SelectRun.lean ====
module

public import proofs.«01_k».proof.Proof.Gen.Select.Frame
public import proofs.«01_k».proof.Proof.Gen.Select.Loops
public import Idealize.ShloMosaic.Lib.Claim
public import Idealize.ShloMosaic.Lib.VecWindow

/-! # The selection call: what its body leaves at a point

The body of one row block is run once for each of the two ways its first conditional (first point or not) can go; the
second conditional, on the counts of the row block, is decided by the block itself, so it stays in the value. -/

@[expose] public section

set_option maxRecDepth 16384

noncomputable section

namespace Cert.Select.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Select Cert.Select.Gen

variable {F : FTy → Type} [BitOps F]

local notation "𝕄" => MT nD τ sig Unit (Elt F) ℕ (UR sig nD τ) ℕ

/-- One trip of the search over the four strided maxima of a block. -/
def tripS (x : Vec F S64x24576 .f32) (k : Fin k0_t1_loop.trips) (a : IVec S64x1 32) : IVec S64x1 32 :=
  k0_pay94 x (k0_pay84 x (k0_pay42 x)) (k0_pay86 x (k0_pay42 x) (k0_pay44 x))
    (k0_pay88 x (k0_pay42 x) (k0_pay44 x) (k0_pay46 x))
    (k0_pay89 x (k0_pay39 x) (k0_pay40 x) (k0_pay42 x) (k0_pay44 x) (k0_pay45 x) (k0_pay46 x))
    (k0_pay90 x) (k0_pay91 x (k0_pay42 x)) k a

/-- The threshold of each row found over the four strided maxima. -/
def thrS (x : Vec F S64x24576 .f32) : IVec S64x1 32 := Scf.fold (tripS x) k0_pay93

/-- The threshold of each row found over the whole rows. -/
def thrE (x : Vec F S64x24576 .f32) : IVec S64x1 32 := Scf.fold (k0_pay97 x) k0_pay96

/-- Some row of the block does not keep exactly 64 entries at the first threshold. -/
def missed (x : Vec F S64x24576 .f32) : Prop :=
  Scalar.cmpi .ne (Scalar.extui (Scalar.cmpf .ogt (k0_pay95 x (thrS x)) (Scalar.ofBits (F := F) .f32 0x00000000#32)) : BitVec 32) 0#32 = 1#1

open Classical in
/-- The threshold of each row the block is cut at. -/
def thr (x : Vec F S64x24576 .f32) : IVec S64x1 32 := if missed x then thrE x else thrS x

/-- The block the body stores: the entries at or above the threshold of their row, zeros elsewhere. -/
def hBlock (x : Vec F S64x24576 .f32) : Vec F S64x24576 .f32 := k0_pay98 x (thr x)

/-- The running total after a point, over the total before it. -/
def total (x : Vec F S64x24576 .f32) (s : Vec F S1x1 .f32) : Vec F S1x1 .f32 := k0_pay2 (hBlock x) s

theorem z2 : (![0, 0] : Fin 2 → ℕ) = fun _ => 0 := by decide

/-- The condition of the body's conditional on the point. -/
abbrev condFirst (i : grid0.Coords) : Prop := (Scalar.cmpi .ne (Scalar.extui (Scalar.cmpi .eq (BitVec.ofNat 32 (i 0).val) 0#32)) 0#32) = 1#1
/-- It holds at the first point only. -/
theorem hcondFirst : ∀ t : Fin cfg0.N, condFirst (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [condFirst, e0]
    word_cmp
   : ∀ t : Fin grid0.N, condFirst (grid0.coords t) ↔ t.val % 128 = 0)

/-- The row block as the body loads it. -/
def loaded (arg1 : Memref sig .tc .vmem S64x24576 .f32) (harg1 : arg1.IsWhole) (x0 : Vec F S64x24576 .f32) : Vec F S64x24576 .f32 :=
  View.readAt (Elt F) arg1.view (Rect.unit ![0, 0] S64x24576.size inb_S64x24576_S64x24576_0_0).toLoadRect (harg1.unread x0)

theorem loaded_eq (arg1 : Memref sig .tc .vmem S64x24576 .f32) (harg1 : arg1.IsWhole) (x0 : Vec F S64x24576 .f32) :
    loaded arg1 harg1 x0 = x0 :=
  (View.readAt_full arg1.view _ inb_S64x24576_S64x24576_0_0).trans (harg1.read_unread x0)

set_option maxHeartbeats 2000000 in
/-- The body at the first point: the block is stored and the total starts from zero. -/
theorem run_first (c : Dev nD) (i : grid0.Coords) (arg1 : Memref sig .tc .vmem S64x24576 .f32) (harg1 : arg1.IsWhole) (arg2 : Memref sig .tc .vmem S64x24576 .f32) (harg2 : arg2.IsWhole) (arg3 : Memref sig .tc .vmem S1x1 .f32) (harg3 : arg3.IsWhole) (hc0 : condFirst i)
    (x0 : Vec F S64x24576 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (hBlock x0) ∗ owns (c : Thread nD τ) arg3 fullShare (total x0 (k0_pay1 (F := F)))) -∗ K ⟨⟩))
          ⊢ wp frame (wpE (defs₀ (F := F)) Variants.none c none) E (cc0__sel_body i arg1 harg1 arg2 harg2 arg3 harg3) K := by
    intro E K
    simp only [cc0__sel_body_eq_skeleton]; unfold cc0__sel_body_skel
    simp only [k0_part1_eq_skeleton, k0_part2_eq_skeleton, k0_part3_eq_skeleton]
    unfold owns
    iintro ⟨⟨%f0, %hf0, H0⟩, ⟨%d1, %f1, -, H1⟩, ⟨%d2, %f2, -, H2⟩, Hk⟩
    obtain rfl := harg1.eq_unread hf0
    have hx : loaded arg1 harg1 x0 = x0 := loaded_eq arg1 harg1 x0
    by_cases hm : missed x0
    · sl_exec (disch := first | sl_exact hc0 | exact hm)
      sl_step
      iapply Hk
      isplitl [H0]
      · iexists _; isplitr; · ipureintro; exact harg1.read_unread _
        iexact H0
      have hb : k0_pay98 x0 (thrE x0) = hBlock x0 := by
        unfold hBlock thr; rw [if_pos hm]
      isplitl [H1]
      · iexists _; isplitr; swap; · iexact H1
        ipureintro
        exact (View.read_writes_full arg2.view f1 inb_S64x24576_S64x24576_0_0 _ _).trans hb
      iexists _; isplitr; swap; · iexact H2
      ipureintro
      refine (View.read_writes_full arg3.view _ inb_S1x1_S1x1_0_0 _ _).trans ?_
      unfold total
      exact congrArg₂ k0_pay2 hb (View.readAt_writes_full arg3.view _ inb_S1x1_S1x1_0_0 inb_S1x1_S1x1_0_0 _ _)
    · sl_exec (disch := first | sl_exact hc0 | exact hm)
      sl_step
      iapply Hk
      isplitl [H0]
      · iexists _; isplitr; · ipureintro; exact harg1.read_unread _
        iexact H0
      have hb : k0_pay98 x0 (thrS x0) = hBlock x0 := by
        unfold hBlock thr; rw [if_neg hm]
      isplitl [H1]
      · iexists _; isplitr; swap; · iexact H1
        ipureintro
        exact (View.read_writes_full arg2.view f1 inb_S64x24576_S64x24576_0_0 _ _).trans hb
      iexists _; isplitr; swap; · iexact H2
      ipureintro
      refine (View.read_writes_full arg3.view _ inb_S1x1_S1x1_0_0 _ _).trans ?_
      unfold total
      exact congrArg₂ k0_pay2 hb (View.readAt_writes_full arg3.view _ inb_S1x1_S1x1_0_0 inb_S1x1_S1x1_0_0 _ _)

set_option maxHeartbeats 2000000 in
/-- The body at a later point: the block is stored and its count added to the total so far. -/
theorem run_later (c : Dev nD) (i : grid0.Coords) (arg1 : Memref sig .tc .vmem S64x24576 .f32) (harg1 : arg1.IsWhole) (arg2 : Memref sig .tc .vmem S64x24576 .f32) (harg2 : arg2.IsWhole) (arg3 : Memref sig .tc .vmem S1x1 .f32) (harg3 : arg3.IsWhole) (hc0 : ¬condFirst i)
    (x0 : Vec F S64x24576 .f32) (s : Vec F S1x1 .f32) :
      ∀ (E : Set ℕ) (K : PUnit → sProp 𝕄),
        iprop(owns (c : Thread nD τ) arg1 fullShare x0 ∗ (∃ d, owns (c : Thread nD τ) arg2 fullShare d) ∗ owns (c : Thread nD τ) arg3 fullShare s
            ∗ (iprop(owns (c : Thread nD τ) arg1 fullShare x0 ∗ owns (c : Thread nD τ) arg2 fullShare (hBlock x0) ∗ owns (c : Thread nD τ) arg3 fullShare (total x0 s)) -∗ K ⟨⟩))
          ⊢ wp frame (wpE (defs₀ (F := F)) Variants.none c none) E (cc0__sel_body i arg1 harg1 arg2 harg2 arg3 harg3) K := by
    intro E K
    simp only [cc0__sel_body_eq_skeleton]; unfold cc0__sel_body_skel
    simp only [k0_part1_eq_skeleton, k0_part2_eq_skeleton, k0_part3_eq_skeleton]
    unfold owns
    iintro ⟨⟨%f0, %hf0, H0⟩, ⟨%d1, %f1, -, H1⟩, ⟨%f2, %hf2, H2⟩, Hk⟩
    obtain rfl := harg1.eq_unread hf0
    have hx : loaded arg1 harg1 x0 = x0 := loaded_eq arg1 harg1 x0
    by_cases hm : missed x0
    · sl_exec (disch := first | sl_exact hc0 | exact hm)
      sl_step
      iapply Hk
      isplitl [H0]
      · iexists _; isplitr; · ipureintro; exact harg1.read_unread _
        iexact H0
      have hb : k0_pay98 x0 (thrE x0) = hBlock x0 := by
        unfold hBlock thr; rw [if_pos hm]
      isplitl [H1]
      · iexists _; isplitr; swap; · iexact H1
        ipureintro
        exact (View.read_writes_full arg2.view f1 inb_S64x24576_S64x24576_0_0 _ _).trans hb
      iexists _; isplitr; swap; · iexact H2
      ipureintro
      refine (View.read_writes_full arg3.view _ inb_S1x1_S1x1_0_0 _ _).trans ?_
      unfold total
      exact congrArg₂ k0_pay2 hb ((View.readAt_full arg3.view _ inb_S1x1_S1x1_0_0).trans hf2)
    · sl_exec (disch := first | sl_exact hc0 | exact hm)
      sl_step
      iapply Hk
      isplitl [H0]
      · iexists _; isplitr; · ipureintro; exact harg1.read_unread _
        iexact H0
      have hb : k0_pay98 x0 (thrS x0) = hBlock x0 := by
        unfold hBlock thr; rw [if_neg hm]
      isplitl [H1]
      · iexists _; isplitr; swap; · iexact H1
        ipureintro
        exact (View.read_writes_full arg2.view f1 inb_S64x24576_S64x24576_0_0 _ _).trans hb
      iexists _; isplitr; swap; · iexact H2
      ipureintro
      refine (View.read_writes_full arg3.view _ inb_S1x1_S1x1_0_0 _ _).trans ?_
      unfold total
      exact congrArg₂ k0_pay2 hb ((View.readAt_full arg3.view _ inb_S1x1_S1x1_0_0).trans hf2)

end Cert.Select.Hand

end
-- ==== Proof.SelectFrame.lean ====
module

public import proofs.«01_k».proof.Proof.SelectRun

/-! # The selection call: its proof data, its run and its frame -/

@[expose] public section

set_option maxRecDepth 16384

noncomputable section

namespace Cert.Select.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Select Cert.Select.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The row block of point `t`. -/
def xblk (c : Dev nD) (t : Fin cfg0.N) : Vec F S64x24576 .f32 := iblk m c 0 t

/-- The running total after the body at point `n`: from zero at the first point, from the total before at the others. -/
def totalAt (c : Dev nD) : (n : ℕ) → n < cfg0.N → Vec F S1x1 .f32
  | 0, hn => total (xblk m c ⟨0, hn⟩) (k0_pay1 (F := F))
  | n + 1, hn => total (xblk m c ⟨n + 1, hn⟩) (totalAt c n (Nat.lt_of_succ_lt hn))

/-- The proof data of the pipeline: the input's buffer keeps its block, the first output's holds the cut block, the
    second's the running total. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => hBlock (xblk m c t)
    | ⟨2, _⟩ => totalAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = hBlock (xblk m c t) := by dsimp only [dats]
theorem after0_2 (c : Dev nD) (t : Fin cfg0.N) : (dats m 0 c).after 2 t = totalAt m c t.val t.isLt := by dsimp only [dats]

theorem before0_0 (c : Dev nD) (t : Fin cfg0.N) (d) : (dats m 0 c).before 0 t d = iblk m c 0 t :=
  before0_0_of m (dats m 0 c) (A_eq m c 0) (after0_0 m c) t d

/-- At a later point the total's buffer holds what the point before left. -/
theorem before0_2 (c : Dev nD) (t : Fin cfg0.N) (h0 : t.val ≠ 0) (d) :
    (dats m 0 c).before 2 t d = totalAt m c (t.val - 1) (Nat.lt_of_le_of_lt (Nat.sub_le _ _) t.isLt) := by
  have hN : t.val < 128 := lt_of_lt_of_eq t.isLt (show cfg0.N = 128 from N_0)
  have hf : (cfg0.win 2).flush ⟨t.val - 1, Nat.lt_of_le_of_lt (Nat.sub_le _ _) t.isLt⟩ = false := by
    rw [Bool.eq_false_iff]
    intro h
    have := (flush0_2 _).mp h
    dsimp only at this
    omega
  rw [Dat.before_out_kept (dats m 0 c) 2 rfl t h0 hf (fun _ => rfl) (fun _ _ => rfl) d]
  dsimp only [dats]

theorem totalAt_first (c : Dev nD) (t : Fin cfg0.N) (h0 : t.val = 0) :
    totalAt m c t.val t.isLt = total (xblk m c t) (k0_pay1 (F := F)) := by
  obtain ⟨n, hn⟩ := t
  cases n with
  | zero => rfl
  | succ n => exact absurd h0 (Nat.succ_ne_zero n)

theorem totalAt_later (c : Dev nD) (t : Fin cfg0.N) (h0 : t.val ≠ 0) :
    totalAt m c t.val t.isLt = total (xblk m c t) (totalAt m c (t.val - 1) (Nat.lt_of_le_of_lt (Nat.sub_le _ _) t.isLt)) := by
  obtain ⟨n, hn⟩ := t
  cases n with
  | zero => exact absurd rfl h0
  | succ n => rfl

/-! ## The body obligation -/

/-- Each window's current staging memref at point `t`, and that it is whole. -/
abbrev ms0_0 (t : Fin cfg0.N) : Memref sig .tc .vmem S64x24576 .f32 := win0_0.stage (cfg0.slots t 0)
abbrev ms0_1 (t : Fin cfg0.N) : Memref sig .tc .vmem S64x24576 .f32 := win0_1.stage (cfg0.slots t 1)
abbrev ms0_2 (t : Fin cfg0.N) : Memref sig .tc .vmem S1x1 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare (iblk m c 0 t) from
    after0_0 m c t ▸ rfl]
  rw [show (dats m 0 c).leavesExact 1 t = owns (c : Thread nD τ) (ms0_1 t) fullShare (hBlock (xblk m c t)) from
    after0_1 m c t ▸ rfl]
  rw [show (dats m 0 c).leavesExact 2 t = owns (c : Thread nD τ) (ms0_2 t) fullShare (totalAt m c t.val t.isLt) from
    after0_2 m c t ▸ rfl]
  have hN : t.val < 128 := lt_of_lt_of_eq t.isLt (show cfg0.N = 128 from N_0)
  by_cases h0 : t.val = 0
  · rw [totalAt_first m c t h0]
    iintro ⟨HΦ, Ho, ⟨%d0, H0⟩, ⟨%d1, H1⟩, ⟨%d2, H2⟩⟩
    iapply ((run_first c (grid0.coords t) _ _ _ _ _ _ ((hcondFirst t).mpr (by omega)) (xblk m c t)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [totalAt_later m c t h0]
    simp only [before0_2 m c t h0]
    iintro ⟨HΦ, Ho, ⟨%d0, H0⟩, ⟨%d1, H1⟩, ⟨%d2, H2⟩⟩
    iapply ((run_later c (grid0.coords t) _ _ _ _ _ _ (fun h => h0 (by have := (hcondFirst t).mp h; omega)) (xblk m c t) _) Set.univ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run of the launch, with every counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run of the launch. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame of the selection call, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Select.Hand

end
-- ==== Proof.SelectOrder.lean ====
/-
  The counting behind `select`, on integers: which places of a row reach a threshold, against the places a descending order puts first.
  A row's `n` integers `w`, a place permutation `σ` under which they descend, and the number `reach w t` of places that reach `t`: place
  `σ i` reaches `t` exactly when `i < reach w t` (`reach_iff`). Hence (`kept_eq`) keeping what reaches the threshold is keeping the first
  `K` places, if exactly `K` reach it, and also if it is the greatest threshold `K` places reach and the `K`-th integer is above the next
  one or zero.
-/
module

public import Idealize.ShloMosaic.Lib.Claim

@[expose] public section

set_option maxRecDepth 16384

noncomputable section

namespace Cert.Select.Hand

/-- How many places of the row reach the threshold. -/
def reach {n : ℕ} (w : Fin n → ℤ) (t : ℤ) : ℕ := (Finset.univ.filter fun j => t ≤ w j).card

theorem reach_le {n : ℕ} (w : Fin n → ℤ) (t : ℤ) : reach w t ≤ n :=
  (Finset.card_le_univ _).trans (by simp)

variable {n : ℕ} {w : Fin n → ℤ} {σ : Fin n → Fin n}

/-- Along a descending order the number of places that reach `t` is the same as in the row. -/
theorem reach_comp (hσ : Function.Bijective σ) (t : ℤ) : reach (fun i => w (σ i)) t = reach w t := by
  unfold reach
  refine Finset.card_bij (fun i _ => σ i) (fun i hi => ?_) (fun i _ j _ h => hσ.1 h) (fun j hj => ?_)
  · simpa using hi
  · obtain ⟨i, rfl⟩ := hσ.2 j
    exact ⟨i, by simpa using hj, rfl⟩

/-- The place a descending order puts at `i` reaches `t` exactly when more than `i` places do. -/
theorem reach_iff (hσ : Function.Bijective σ) (hd : ∀ i j, i < j → w (σ j) ≤ w (σ i)) (t : ℤ) (i : Fin n) :
    t ≤ w (σ i) ↔ i.val < reach w t := by
  rw [← reach_comp hσ t]
  change t ≤ w (σ i) ↔ i.val < (Finset.univ.filter fun j => t ≤ w (σ j)).card
  constructor
  · intro h
    have hs : Finset.Iic i ⊆ Finset.univ.filter fun j => t ≤ w (σ j) := fun j hj => by
      rcases (Finset.mem_Iic.1 hj).eq_or_lt with rfl | hlt
      · simpa using h
      · simpa using h.trans (hd j i hlt)
    have := Finset.card_le_card hs
    rw [Fin.card_Iic] at this
    omega
  · intro h
    by_contra hn
    have hs : (Finset.univ.filter fun j => t ≤ w (σ j)) ⊆ Finset.Iio i := fun j hj => by
      rw [Finset.mem_Iio]
      by_contra hji
      rcases (not_lt.1 hji).eq_or_lt with he | hlt
      · subst he; exact hn (by simpa using hj)
      · exact hn ((by simpa using hj : t ≤ w (σ j)).trans (hd i j hlt))
    have := Finset.card_le_card hs
    rw [Fin.card_Iio] at this
    omega

/-- Keeping what reaches `t` is keeping the first `K` places: exactly `K` reach it, or it is the greatest threshold that `K` places
    reach and the `K`-th integer is above the next or zero, no integer being negative. -/
theorem kept_eq (hσ : Function.Bijective σ) (hd : ∀ i j, i < j → w (σ j) ≤ w (σ i)) (h0 : ∀ j, 0 ≤ w j) {K : ℕ} (a b : Fin n)
    (ha : a.val + 1 = K) (hb : b.val = K) (t : ℤ)
    (h : reach w t = K ∨ (K ≤ reach w t ∧ reach w (t + 1) < K ∧ (w (σ b) < w (σ a) ∨ w (σ a) = 0))) (i : Fin n) :
    ((t ≤ w (σ i) ↔ i.val < K) ∨ w (σ i) = 0) := by
  rcases h with h | ⟨h1, h2, h3⟩
  · exact .inl (by rw [reach_iff hσ hd, h])
  · have ht : t ≤ w (σ a) := (reach_iff hσ hd t a).2 (by omega)
    have ht' : ¬ t + 1 ≤ w (σ a) := fun hh => by have := (reach_iff hσ hd _ a).1 hh; omega
    rcases h3 with h3 | h3
    · have hb' : ¬ t ≤ w (σ b) := by omega
      have : ¬ b.val < reach w t := fun hh => hb' ((reach_iff hσ hd t b).2 hh)
      exact .inl (by rw [reach_iff hσ hd]; omega)
    · by_cases hi : i.val < K
      · refine .inl ⟨fun _ => hi, fun _ => ?_⟩
        have := h0 (σ i)
        omega
      · have hai : a < i := by rw [Fin.lt_def]; omega
        have := hd a i hai
        have := h0 (σ i)
        exact .inr (by omega)

/-- One step of the search, on naturals: with `lo` a multiple of `2 b`, setting the bit `b` adds it. -/
theorem lor_bit (lo k : ℕ) (h : 2 ^ (k + 1) ∣ lo) : lo ||| 2 ^ k = lo + 2 ^ k := by
  obtain ⟨q, rfl⟩ := h
  exact (Nat.two_pow_add_eq_or_of_lt (i := k + 1) (Nat.pow_lt_pow_right (by omega) (by omega)) q).symm

/-- What the search knows with the bits from `p` on decided: `lo` is a multiple of `2 ^ p` that `K` places reach, and `lo + 2 ^ p` is
    reached by fewer. -/
structure Search (w : Fin n → ℤ) (K p lo : ℕ) : Prop where
  dvd : 2 ^ p ∣ lo
  lt : lo + 2 ^ p ≤ 2 ^ 31
  hi : K ≤ reach w lo
  next : reach w ((lo + 2 ^ p : ℕ) : ℤ) < K

/-- The search starts at zero: every place reaches it, none reaches `2 ^ 31`. -/
theorem Search.start (h0 : ∀ j, 0 ≤ w j) (h1 : ∀ j, w j < 2 ^ 31) {K : ℕ} (hK : 0 < K) (hn : K ≤ n) : Search w K 31 0 := by
  refine ⟨by simp, by simp, ?_, ?_⟩
  · have : reach w ((0 : ℕ) : ℤ) = n := by
      unfold reach
      rw [Finset.filter_true_of_mem (fun j _ => by simpa using h0 j)]
      simp
    omega
  · have : reach w ((0 + 2 ^ 31 : ℕ) : ℤ) = 0 := by
      unfold reach
      rw [Finset.card_eq_zero, Finset.filter_eq_empty_iff]
      intro j _ hj
      have := h1 j
      push_cast at hj
      omega
    omega

/-- One step decides the next bit. -/
theorem Search.step {K p lo : ℕ} (h : Search w K (p + 1) lo) :
    Search w K p (if K ≤ reach w ((lo ||| 2 ^ p : ℕ) : ℤ) then lo ||| 2 ^ p else lo) := by
  have hp : 2 ^ (p + 1) = 2 ^ p + 2 ^ p := by rw [Nat.pow_succ]; omega
  have hl := h.lt
  have hd : 2 ^ p ∣ lo := (Nat.pow_dvd_pow 2 (Nat.le_succ p)).trans h.dvd
  have hn := h.next
  rw [lor_bit lo p h.dvd]
  split
  · rename_i hk
    refine ⟨Nat.dvd_add hd (Nat.dvd_refl _), by omega, hk, ?_⟩
    rw [show lo + 2 ^ p + 2 ^ p = lo + 2 ^ (p + 1) by omega]; exact hn
  · rename_i hk
    exact ⟨hd, by omega, h.hi, by omega⟩

end Cert.Select.Hand

end
-- ==== Proof.SelectSearch.lean ====
/-
  The threshold of `select` at the bit-level instance, row by row: the count a trip of the bit search compares with 64 is the number of
  words of the row that reach the candidate, so the exact search ends at the greatest threshold 64 words reach (`thrE_search`); where the
  flag is down every row's threshold of the lane search is reached by exactly 64 words (`reach_of_not_missed`).
-/
module

public import proofs.«01_k».proof.Proof.SelectFrame
public import proofs.«01_k».proof.Proof.SelectOrder
public import Idealize.ShloMosaic.Lib.Pipeline.ValueKit
public import Idealize.ShloMosaic.Lib.IndicatorCount
public import Idealize.ShloMosaic.Lib.NatWords
public import Idealize.ShloMosaic.Lib.NatWordsOrder
public import Idealize.ShloMosaic.Lib.WordCmp

@[expose] public section

set_option maxRecDepth 16384

noncomputable section

namespace Cert.Select.Hand

open Idealize.ShloMosaic Idealize.ShloMosaic.TcCoe Idealize.SL.Sem
open Cert.Select Cert.Select.Gen

/-- The words of a row, read signed. -/
def row {R : ℕ} (x : Vec Bits ⟨2, ![R, 24576]⟩ .f32) (r : Fin R) : Fin 24576 → ℤ := fun j => BitVec.toInt (n := 32) (x (ix2 r j))

/-- The kernel's count of the words that are at least `t`, signed, is `reach`. -/
theorem count_eq {n : ℕ} (y : Fin n → BitVec 32) (t : BitVec 32) :
    Finset.fold IntOp.addi 0#32 (fun j => BitVec.setWidth 32 (IntOp.cmpi .sge (y j) t)) Finset.univ
      = BitVec.ofNat 32 (reach (fun j => (y j).toInt) t.toInt) := by
  rw [IndicatorCount.fold_addi_setWidth_eq_card (fun j => IntOp.cmpi .sge (y j) t)]
  unfold reach
  congr 2
  ext j
  simp only [Finset.mem_filter, Finset.mem_univ, true_and]
  rw [WordCmp.cmpi_sge_eq, WordCmp.ofBool_decide_eq_one_iff]

/-- The same, of a row of the block. -/
theorem count_row (x : Vec Bits S64x24576 .f32) (r : Fin 64) (t : BitVec 32) :
    Finset.fold IntOp.addi 0#32 (fun j : Fin 24576 => BitVec.setWidth 32 (IntOp.cmpi .sge (BitOps.toBits (F := Bits) (φ := .f32) (x (ix2 r j))) t)) Finset.univ
      = BitVec.ofNat 32 (reach (row x r) t.toInt) := by
  exact count_eq (fun j : Fin 24576 => (x (ix2 r j) : BitVec 32)) t

theorem reach_lt {w : Fin 24576 → ℤ} {t : ℤ} : reach w t < 2 ^ 31 := lt_of_le_of_lt (reach_le w t) (by norm_num)

/-- A trip of the exact search on one row. -/
theorem pay97_at (x : Vec Bits S64x24576 .f32) (k : Fin k0_t2_loop.trips) (a : IVec S64x1 32) (r : Fin 64) :
    k0_pay97 x k a (ix2 r 0)
      = if 64 ≤ reach (row x r) (a (ix2 r 0) ||| Scalar.shli 1#32 (Scalar.subi 30#32 (Scf.iv 0#32 1#32 k))).toInt
        then a (ix2 r 0) ||| Scalar.shli 1#32 (Scalar.subi 30#32 (Scf.iv 0#32 1#32 k)) else a (ix2 r 0) := by
  have h : k0_pay97 x k a (ix2 r 0)
      = Scalar.select (IntOp.cmpi .sge (Finset.fold IntOp.addi 0#32 (fun j : Fin 24576 => BitVec.setWidth 32
          (IntOp.cmpi .sge (x (ix2 r j) : BitVec 32) (a (ix2 r 0) ||| Scalar.shli 1#32 (Scalar.subi 30#32 (Scf.iv 0#32 1#32 k))))) Finset.univ) 64#32)
        (a (ix2 r 0) ||| Scalar.shli 1#32 (Scalar.subi 30#32 (Scf.iv 0#32 1#32 k))) (a (ix2 r 0)) := by
    pointwise [k0_pay97, k0_pay92]
    rfl
  rw [h, count_eq, show (64#32 : BitVec 32) = BitVec.ofNat 32 64 from rfl, WordCmp.cmpi_sge_ofNat reach_lt (by norm_num),
    WordCmp.select_decide]
  rfl

theorem pay98_at (x : Vec Bits S64x24576 .f32) (t : IVec S64x1 32) (r : Fin 64) (q : Fin 24576) :
    k0_pay98 x t (ix2 r q) = if (t (ix2 r 0)).toInt ≤ row x r q then x (ix2 r q) else (FloatOps.ofBits .f32 0#32 : Bits .f32) := by
  have h : k0_pay98 x t (ix2 r q)
      = Scalar.select (IntOp.cmpi .sge (x (ix2 r q) : BitVec 32) (t (ix2 r 0))) (x (ix2 r q)) (FloatOps.ofBits .f32 0#32 : Bits .f32) := by
    pointwise [k0_pay98, k0_pay92]
    rfl
  rw [h, WordCmp.cmpi_sge_eq, WordCmp.select_decide]
  rfl

/-- A fold over the trips keeps what every trip keeps. -/
theorem foldl_finRange {σ : Type} {n : ℕ} (g : Fin n → σ → σ) (P : ℕ → σ → Prop) (a : σ) (h0 : P 0 a)
    (hs : ∀ (k : Fin n) a, P k.val a → P (k.val + 1) (g k a)) : P n ((List.finRange n).foldl (fun acc k => g k acc) a) := by
  induction n generalizing P a with
  | zero => simpa using h0
  | succ n ih =>
    rw [List.finRange_succ, List.foldl_cons, List.foldl_map]
    exact ih (fun k => g k.succ) (fun k => P (k + 1)) _ (hs 0 a h0) (fun k a h => hs k.succ a h)

/-- The bit of trip `k`. -/
theorem bit_eq : ∀ k : Fin k0_t2_loop.trips,
    (Scalar.shli 1#32 (Scalar.subi 30#32 (Scf.iv 0#32 1#32 k)) : BitVec 32).toNat = 2 ^ (30 - k.val) := by
  decide

theorem trips_eq : k0_t2_loop.trips = 31 := by decide

/-- The exact search ends at the greatest threshold 64 words of the row reach. -/
theorem thrE_search (x : Vec Bits S64x24576 .f32) (r : Fin 64) (h0 : ∀ j, 0 ≤ row x r j) :
    Search (row x r) 64 0 ((thrE x (ix2 r 0)).toNat) := by
  have h1 : ∀ j, row x r j < 2 ^ 31 := fun j => by
    have := BitVec.toInt_lt (w := 32) (x := x (ix2 r j))
    simpa [row] using this
  have key := foldl_finRange (k0_pay97 x) (fun k a => Search (row x r) 64 (31 - k) ((a (ix2 r 0)).toNat)) k0_pay96
    (by
      have := Search.start h0 h1 (K := 64) (by norm_num) (by norm_num)
      simpa [k0_pay96, broadcast] using this)
    (fun k a h => by
      have hk : k.val < 31 := lt_of_lt_of_eq k.isLt trips_eq
      have hp : 31 - k.val = (30 - k.val) + 1 := by omega
      have hp' : 31 - (k.val + 1) = 30 - k.val := by omega
      rw [hp] at h
      have hs := h.step
      have hb : (a (ix2 r 0) ||| Scalar.shli 1#32 (Scalar.subi 30#32 (Scf.iv 0#32 1#32 k)) : BitVec 32).toNat
          = (a (ix2 r 0)).toNat ||| 2 ^ (30 - k.val) := by
        rw [BitVec.toNat_or, bit_eq]
      have hlt : (a (ix2 r 0)).toNat ||| 2 ^ (30 - k.val) < 2 ^ 31 := by
        refine Nat.or_lt_two_pow ?_ (Nat.pow_lt_pow_right (by norm_num) (by omega))
        have := h.lt
        have : 0 < 2 ^ (30 - k.val + 1) := Nat.two_pow_pos _
        omega
      have hi : (a (ix2 r 0) ||| Scalar.shli 1#32 (Scalar.subi 30#32 (Scf.iv 0#32 1#32 k)) : BitVec 32).toInt
          = (((a (ix2 r 0)).toNat ||| 2 ^ (30 - k.val) : ℕ) : ℤ) := by
        rw [WordCmp.toInt_eq_toNat_of_lt_half (by rw [hb]; exact hlt), hb]
      show Search (row x r) 64 (31 - (k.val + 1)) _
      rw [pay97_at, hi, hp']
      split
      · rename_i hh; rw [hb]; rwa [if_pos hh] at hs
      · rename_i hh; rwa [if_neg hh] at hs)
  unfold thrE
  rw [Scf.fold_eq]
  exact key

theorem one_eq : (FloatOps.ofBits .f32 0x3F800000#32 : Bits .f32) = Bits.f32OfNat 1 := by
  rw [Bits.f32OfNat_eq 1 (by norm_num)]
  decide

/-- Where the flag is down, exactly 64 words of every row reach the lane search's threshold. -/
theorem reach_of_not_missed (x : Vec Bits S64x24576 .f32) (hm : ¬ missed x) (r : Fin 64) :
    reach (row x r) (thrS x (ix2 r 0)).toInt = 64 := by
  by_contra hne
  apply hm
  have h : k0_pay95 x (thrS x) = Finset.fold (FloatOps.maximumf (F := Bits) (φ := .f32)) (0xFF800000#32 : Bits .f32)
      (fun y : Fin 64 × Fin 1 => Bits.f32OfNat (if reach (row x y.1) (thrS x (ix2 y.1 0)).toInt ≠ 64 then 1 else 0)) Finset.univ := by
    pointwise [k0_pay95, k0_pay92]
    refine congrArg (fun f => Finset.fold (FloatOps.maximumf (F := Bits) (φ := .f32)) (0xFF800000#32 : Bits .f32) f Finset.univ) (funext fun y => ?_)
    rw [count_row, show (64#32 : BitVec 32) = BitVec.ofNat 32 64 from rfl,
      WordCmp.cmpi_ne_ofNat (lt_trans reach_lt (by norm_num)) (by norm_num), WordCmp.select_decide, one_eq]
    show (if reach (row x y.1) (thrS x (ix2 y.1 0)).toInt ≠ 64 then _ else _) = _
    split
    · rfl
    · exact Bits.f32OfNat_zero.symm
  rw [Bits.fold_maximumf_negativeInfinity_nat Finset.univ ⟨(r, 0), Finset.mem_univ _⟩ _ (fun y _ => by split <;> norm_num)] at h
  obtain ⟨-, h2, h3⟩ := Bits.fold_max_spec Finset.univ
    (fun y : Fin 64 × Fin 1 => if reach (row x y.1) (thrS x (ix2 y.1 0)).toInt ≠ 64 then 1 else 0) 0
  have hr := h2 (r, 0) (Finset.mem_univ _)
  rw [if_pos hne] at hr
  have hle : Finset.univ.fold max 0 (fun y : Fin 64 × Fin 1 => if reach (row x y.1) (thrS x (ix2 y.1 0)).toInt ≠ 64 then 1 else 0) < 2 ^ 24 := by
    rcases h3 with h3 | ⟨y, -, h3⟩
    · rw [h3]; norm_num
    · rw [h3]; split <;> norm_num
  unfold missed
  rw [h, show (Scalar.ofBits (F := Bits) .f32 0x00000000#32 : Bits .f32) = Bits.f32OfNat 0 from Bits.f32OfNat_zero.symm]
  have hg : Scalar.cmpf (F := Bits) (φ := .f32) .ogt (Bits.f32OfNat (Finset.univ.fold max 0
      (fun y : Fin 64 × Fin 1 => if reach (row x y.1) (thrS x (ix2 y.1 0)).toInt ≠ 64 then 1 else 0))) (Bits.f32OfNat 0) = 1#1 := by
    refine (Bits.cmpf32_ogt_nat hle (by norm_num)).trans ?_
    rw [WordCmp.ofBool_decide_eq_one_iff]
    omega
  rw [hg]
  decide

end Cert.Select.Hand

end
-- ==== Proof.SelectTop.lean ====
/-
  The reference of `select` at the bit-level instance, row by row. A row's order `ord` is the permutation its top-k sorts the places by:
  on words with the sign clear they descend along it as integers (`ord_desc`); the values and positions top-k returns are the first of that
  order (`topK_val`, `topK_pos`); the array those are scattered into reads, at place `ord i`, the row's word for `i` below 64 and zero from
  there on (`hTop_at`). The precondition is read as: no word has its sign set (`pre_sign`), and the 64th of the order is above the 65th or
  is zero (`pre_untied`).
-/
module

public import proofs.«01_k».proof.Proof.SelectOrder
public import proofs.«01_k».proof.Proof.Gen.SelectRef
public import proofs.«01_k».proof.Proof.Gen.Pre_unsigned_untied
public import Idealize.ShloMosaic.Lib.Pipeline.ValueKit
public import Idealize.ShloMosaic.Lib.SortFacts
public import Idealize.ShloMosaic.Lib.SortKey
public import Idealize.ShloMosaic.Lib.WordCmp
public import Idealize.ShloMosaic.Lib.Routing.OpsPair
public import Idealize.ShloMosaic.Lib.ScatterToDense.RefScatter

@[expose] public section

set_option maxRecDepth 16384

noncomputable section

namespace Cert.SelectRef.Hand

open Idealize.ShloMosaic Idealize.ShloMosaic.TcCoe Idealize.SL.Sem
open Cert.SelectRef Cert.SelectRef.Gen
open Cert.Select.Hand (reach)

/-- The words of a row, read signed. -/
def row (x : Vec Bits S8192x24576 .f32) (r : Fin 8192) : Fin 24576 → ℤ := fun j => BitVec.toInt (n := 32) (x (ix2 r j))

/-- The order of a row's places: the stable sort by the total order, greater first. -/
def ord (x : Vec Bits S8192x24576 .f32) (r : Fin 8192) : Fin 24576 → Fin 24576 :=
  sortedFrom fun k k' => FloatOps.cmpfTotal (F := Bits) (φ := .f32) .gt (x (ix2 r k)) (x (ix2 r k')) == 1#1

theorem ord_bij (x : Vec Bits S8192x24576 .f32) (r : Fin 8192) : Function.Bijective (ord x r) :=
  ⟨sortedFrom_injective _, sortedFrom_surjective _⟩

/-- On words with the sign clear the total order is the integers'. -/
theorem gt_eq (a b : BitVec 32) (ha : 0 ≤ a.toInt) (hb : 0 ≤ b.toInt) :
    (FloatOps.cmpfTotal (F := Bits) (φ := .f32) .gt (a : Bits .f32) (b : Bits .f32) == 1#1) = decide (b.toInt < a.toInt) := by
  have h : ∀ w : BitVec 32, 0 ≤ w.toInt → w.msb = false := fun w hw => by
    rw [BitVec.msb_eq_toInt]; simpa using hw
  rw [cmpfTotal_f32_eq_cmpi_sortableKey, sortableKey_of_msb_false _ (h a ha), sortableKey_of_msb_false _ (h b hb)]
  show (IntOp.cmpi .sgt a b == 1#1) = _
  rw [WordCmp.cmpi_sgt_eq]
  by_cases hd : b.toInt < a.toInt <;> simp [hd]

/-- Along the order the words of a row without signs descend. -/
theorem ord_desc (x : Vec Bits S8192x24576 .f32) (r : Fin 8192) (h0 : ∀ j, 0 ≤ row x r j) (i j : Fin 24576) (hij : i < j) :
    row x r (ord x r j) ≤ row x r (ord x r i) := by
  have hB : ∀ k k' : Fin 24576, (FloatOps.cmpfTotal (F := Bits) (φ := .f32) .gt (x (ix2 r k)) (x (ix2 r k')) == 1#1)
      = decide (row x r k' < row x r k) := fun k k' => gt_eq _ _ (h0 k) (h0 k')
  have h := sortedFrom_noInversion
    (fun k k' => FloatOps.cmpfTotal (F := Bits) (φ := .f32) .gt (x (ix2 r k)) (x (ix2 r k')) == 1#1)
    (fun k k' => FloatOps.cmpfTotal (F := Bits) (φ := .f32) .gt (x (ix2 r k)) (x (ix2 r k')) == 1#1)
    (fun a b h => by
      simp only [hB, decide_eq_true_eq, decide_eq_false_iff_not, not_lt] at h ⊢
      exact h.le)
    (fun a b h => h)
    (fun a b c h h' => by
      simp only [hB, decide_eq_false_iff_not, not_lt] at h h' ⊢
      exact h.trans h')
    i j hij
  have h' := (hB _ _).symm.trans h
  simpa [ord] using h'

/-- A place of the sorted axis, in a row. -/
theorem along_ix2 (r : Fin 8192) (i k : Fin 24576) :
    Shape.Idx.along (s := S8192x24576) (ix2 r i) 1 k = ix2 r k := by
  funext a
  unfold Shape.Idx.along
  match a with
  | ⟨0, _⟩ => rfl
  | ⟨1, _⟩ => rfl

/-- The place a slice from the start reads. -/
theorem slice_ix2 {K : ℕ} (hK : K ≤ 24576) (h : S8192x24576.Slices (fun _ => 0) ⟨2, ![8192, K]⟩) (r : Fin 8192) (i : Fin K)
    {α : Type} (y : S8192x24576.Idx → α) :
    extractStridedSlice ⟨2, ![8192, K]⟩ (fun _ => 0) y h (ix2 r i) = y (ix2 r ⟨i.val, lt_of_lt_of_le i.isLt hK⟩) := by
  unfold extractStridedSlice
  refine congrArg y (funext fun a => ?_)
  match a with
  | ⟨0, _⟩ => exact Fin.ext (Nat.zero_add _)
  | ⟨1, _⟩ => exact Fin.ext (Nat.zero_add _)

/-- Two operands sorted along the rows, at a place: both at the order's place. -/
theorem sort2_at {α : Type} (x : Vec Bits S8192x24576 .f32) (y : S8192x24576.Idx → α) (r : Fin 8192) (i : Fin 24576) :
    (Host.sort2 S8192x24576 1 (fun l r => FloatOps.cmpfTotal (F := Bits) (φ := .f32) .gt l.1 r.1) x y).1 (ix2 r i) = x (ix2 r (ord x r i))
    ∧ (Host.sort2 S8192x24576 1 (fun l r => FloatOps.cmpfTotal (F := Bits) (φ := .f32) .gt l.1 r.1) x y).2 (ix2 r i) = y (ix2 r (ord x r i)) := by
  have hx : (fun k k' : Fin 24576 => FloatOps.cmpfTotal (F := Bits) (φ := .f32) .gt
        (x (Shape.Idx.along (s := S8192x24576) (ix2 r i) 1 k)) (x (Shape.Idx.along (s := S8192x24576) (ix2 r i) 1 k')) == 1#1)
      = fun k k' => FloatOps.cmpfTotal (F := Bits) (φ := .f32) .gt (x (ix2 r k)) (x (ix2 r k')) == 1#1 := by
    funext k k'
    rw [along_ix2, along_ix2]
  unfold Host.sort2
  rw [dif_pos (show 1 < S8192x24576.rank by decide)]
  exact ⟨(congrArg x (along_ix2 r i _)).trans (congrArg (fun p => x (ix2 r (sortedFrom p i))) hx),
    (congrArg y (along_ix2 r i _)).trans (congrArg (fun p => y (ix2 r (sortedFrom p i))) hx)⟩

/-- The values top-k returns are the row's along the order. -/
theorem topK_val {K : ℕ} (hK : K ≤ 24576) (x : Vec Bits S8192x24576 .f32)
    (h : S8192x24576.Slices (fun _ => 0) ⟨2, ![8192, K]⟩) (r : Fin 8192) (i : Fin K) :
    (Host.topK ⟨2, ![8192, K]⟩ 1 (FloatOps.cmpfTotal (F := Bits) (φ := .f32) .gt) x h).1 (ix2 r i)
      = x (ix2 r (ord x r ⟨i.val, lt_of_lt_of_le i.isLt hK⟩)) := by
  simp only [Host.topK]
  exact (slice_ix2 hK h r i _).trans (sort2_at x _ r _).1

/-- The positions top-k returns are the order's. -/
theorem topK_pos {K : ℕ} (hK : K ≤ 24576) (x : Vec Bits S8192x24576 .f32)
    (h : S8192x24576.Slices (fun _ => 0) ⟨2, ![8192, K]⟩) (r : Fin 8192) (i : Fin K) :
    (Host.topK ⟨2, ![8192, K]⟩ 1 (FloatOps.cmpfTotal (F := Bits) (φ := .f32) .gt) x h).2 (ix2 r i)
      = BitVec.ofNat 32 (ord x r ⟨i.val, lt_of_lt_of_le i.isLt hK⟩).val := by
  simp only [Host.topK]
  refine ((slice_ix2 hK h r i _).trans (sort2_at x _ r _).2).trans ?_
  rw [dif_pos (show 1 < S8192x24576.rank by decide)]
  rfl

/-- The values of the reference's top-k. -/
abbrev vals (x : Vec Bits S8192x24576 .f32) : Vec Bits S8192x64 .f32 :=
  (Host.topK S8192x64 1 (FloatOps.cmpfTotal (F := Bits) (φ := .f32) .gt) x sliceFits_S8192x24576_S8192x64).1

/-- The positions of the reference's top-k. -/
abbrev poss (x : Vec Bits S8192x24576 .f32) : IVec S8192x64 32 :=
  (Host.topK S8192x64 1 (FloatOps.cmpfTotal (F := Bits) (φ := .f32) .gt) x sliceFits_S8192x24576_S8192x64).2

/-- The table the reference scatters by: row and position, each wrapped when negative. -/
abbrev places (p : IVec S8192x64 32) : IVec S8192x64x2 32 :=
  concatenate S8192x64x2 2 [⟨S8192x64x1, (broadcastInDim S8192x64x1 ![0, 1] bcast_S8192x64_S8192x64x1_0_1 (broadcastInDim S8192x64 ![0, 1] bcast_S8192x1_S8192x64_0_1 (select (cmpi .slt (broadcastInDim S8192x1 ![0] bcast_S8192_S8192x1_0 (iotaInDim S8192 32 0)) (broadcastInDim S8192x1 ![] bcast_S_S8192x1 (constantI S_ 32 0#32))) (addi (broadcastInDim S8192x1 ![0] bcast_S8192_S8192x1_0 (iotaInDim S8192 32 0)) (broadcastInDim S8192x1 ![] bcast_S_S8192x1 (constantI S_ 32 8192#32))) (broadcastInDim S8192x1 ![0] bcast_S8192_S8192x1_0 (iotaInDim S8192 32 0)))))⟩, ⟨S8192x64x1, (broadcastInDim S8192x64x1 ![0, 1] bcast_S8192x64_S8192x64x1_0_1 (select (cmpi .slt p (broadcastInDim S8192x64 ![] bcast_S_S8192x64 (constantI S_ 32 0#32))) (addi p (broadcastInDim S8192x64 ![] bcast_S_S8192x64 (constantI S_ 32 24576#32))) p))⟩] concatenates_S8192x64x1_S8192x64x1_S8192x64x2_d2

/-- The array of zeros. -/
abbrev zeros : Vec Bits S8192x24576 .f32 := broadcastInDim S8192x24576 ![] bcast_S_S8192x24576 (constant (F := Bits) S_ .f32 0x00000000#32)

/-- The reference's `h`. -/
abbrev hTop (x : Vec Bits S8192x24576 .f32) : Vec Bits S8192x24576 .f32 :=
  Host.scatter scatter_S8192x24576_S8192x64x2_S8192x64_n_01_01_2 (fun _ b => b) zeros (places (poss x)) (vals x)

/-- The order of a row, on naturals. -/
def ordN (x : Vec Bits S8192x24576 .f32) (r : Fin 8192) (k : ℕ) : Fin 24576 :=
  if h : k < 24576 then ord x r ⟨k, h⟩ else 0

theorem ordN_of_lt (x : Vec Bits S8192x24576 .f32) (r : Fin 8192) {k : ℕ} (h : k < 24576) : ordN x r k = ord x r ⟨k, h⟩ := by
  unfold ordN; rw [dif_pos h]

theorem word_toNat (q : Fin 24576) : (BitVec.ofNat 32 q.val).toNat = q.val :=
  WordCmp.toNat_ofNat_of_lt (lt_trans q.isLt (by norm_num))

/-- The last hit among the first `K` of the order, at place `ord i`: the word itself for `i` below `K`, the fill from there on. -/
theorem last_hit (x : Vec Bits S8192x24576 .f32) (r : Fin 8192) (fill : Bits .f32) (i : Fin 24576) :
    ∀ K : ℕ, K ≤ 24576 → ScatterToDense.GS (fun k => BitVec.ofNat 32 (ordN x r k).val) (fun k => x (ix2 r (ordN x r k))) fill (ord x r i).val K
      = if i.val < K then x (ix2 r (ord x r i)) else fill
  | 0, _ => by rw [if_neg (Nat.not_lt_zero _)]; rfl
  | K + 1, hK => by
    rw [ScatterToDense.GS_succ, last_hit x r fill i K (by omega), word_toNat, ordN_of_lt x r (by omega : K < 24576)]
    by_cases he : i.val = K
    · rw [if_pos (by rw [show i = ⟨K, by omega⟩ from Fin.ext he]), if_pos (by omega), show i = ⟨K, by omega⟩ from Fin.ext he]
    · rw [if_neg (fun h => he (congrArg Fin.val ((ord_bij x r).1 (Fin.ext h))))]
      by_cases hi : i.val < K
      · rw [if_pos hi, if_pos (by omega)]
      · rw [if_neg hi, if_neg (by omega)]

/-- The table's first column is the row. -/
theorem places_row (p : IVec S8192x64 32) (i : Fin 8192) (k : Fin 64) : places p (ValueIdx.ix3 i k (0 : Fin 2)) = BitVec.ofNat 32 i.val := by
  have h : places p (ValueIdx.ix3 i k (0 : Fin 2)) = Scalar.select (IntOp.cmpi .slt (BitVec.ofNat 32 i.val) 0#32)
      (IntOp.addi (BitVec.ofNat 32 i.val) 8192#32) (BitVec.ofNat 32 i.val) := by
    pointwise [places]
  rw [h]
  refine Routing.wrap_of_lt _ _ ?_
  rw [WordCmp.toNat_ofNat_of_lt (lt_trans i.isLt (by norm_num))]
  exact lt_trans i.isLt (by norm_num)

/-- The table's second column is the position, which is not negative. -/
theorem places_pos (p : IVec S8192x64 32) (i : Fin 8192) (k : Fin 64) (hp : (p (ix2 i k)).toNat < 2 ^ 31) :
    places p (ValueIdx.ix3 i k (1 : Fin 2)) = p (ix2 i k) := by
  have h : places p (ValueIdx.ix3 i k (1 : Fin 2)) = Scalar.select (IntOp.cmpi .slt (p (ix2 i k)) 0#32)
      (IntOp.addi (p (ix2 i k)) 24576#32) (p (ix2 i k)) := by
    pointwise [places]
  rw [h]
  exact Routing.wrap_of_lt _ _ hp

/-- The reference's `h` at place `ord i` of a row. -/
theorem hTop_at (x : Vec Bits S8192x24576 .f32) (r : Fin 8192) (i : Fin 24576) :
    hTop x (ix2 r (ord x r i)) = if i.val < 64 then x (ix2 r (ord x r i)) else (FloatOps.ofBits .f32 0#32 : Bits .f32) := by
  rw [← last_hit x r _ i 64 (by norm_num), ix2_eq_valueIdx]
  refine (ScatterToDense.scatter_eq_GS scatter_S8192x24576_S8192x64x2_S8192x64_n_01_01_2 rfl rfl rfl (by norm_num) (by norm_num)
    zeros (places (poss x)) (vals x) (fun r k => BitVec.ofNat 32 (ordN x r k).val) (fun r k => x (ix2 r (ordN x r k)))
    (fun i k => places_row _ i k) (fun i k => ?_) (fun i k => ?_) r (ord x r i)).trans ?_
  · have hp : poss x (ix2 i k) = BitVec.ofNat 32 (ordN x i k.val).val := by
      rw [ordN_of_lt x i (lt_trans k.isLt (by norm_num))]
      exact topK_pos (by norm_num) x _ i k
    rw [← hp]
    refine places_pos _ i k ?_
    rw [hp, word_toNat]
    exact lt_trans (ordN x i k.val).isLt (by norm_num)
  · rw [ordN_of_lt x i (lt_trans k.isLt (by norm_num)), ← ix2_eq_valueIdx]
    exact topK_val (by norm_num) x _ i k
  · have hz : zeros (ValueIdx.ix2 r (ord x r i)) = (FloatOps.ofBits .f32 0#32 : Bits .f32) := by
      pointwise [zeros]
    rw [hz]

/-- A conjunction of bits that is one has only ones. -/
theorem of_fold_andi {ι : Type} (S : Finset ι) (f : ι → BitVec 1) (h : S.fold IntOp.andi 1#1 f = 1#1) : ∀ k ∈ S, f k = 1#1 := by
  classical
  have hand : ∀ a b : BitVec 1, IntOp.andi a b = 1#1 → a = 1#1 ∧ b = 1#1 := by decide
  induction S using Finset.induction_on with
  | empty => intro k hk; exact absurd hk (Finset.notMem_empty k)
  | insert a S ha ih =>
    rw [Finset.fold_insert ha] at h
    obtain ⟨h1, h2⟩ := hand _ _ h
    intro k hk
    rcases Finset.mem_insert.1 hk with rfl | hk
    · exact h1
    · exact ih h2 k hk

theorem of_all {ι : Type} [Fintype ι] (f : ι → BitVec 1) (h : Finset.univ.fold IntOp.andi 1#1 f = 1#1) (k : ι) : f k = 1#1 :=
  of_fold_andi _ f h k (Finset.mem_univ k)

/-- Under the precondition no word has its sign set. -/
theorem pre_sign (x : Vec Bits S8192x24576 .f32) (h : (Cert.Pre_unsigned_untied.fn (F := Bits) x).1 = fun _ => 1#1) (r : Fin 8192)
    (j : Fin 24576) : 0 ≤ row x r j := by
  have h' : (Cert.Pre_unsigned_untied.fn (F := Bits) x).1 ix0 = 1#1 := congrFun h ix0
  pointwise [Cert.Pre_unsigned_untied.fn] at h'
  have hk := of_all _ h' (r, j)
  rw [WordCmp.cmpi_sge_eq, WordCmp.ofBool_decide_eq_one_iff] at hk
  exact hk

/-- Under the precondition a row's 64th word along the order is above the 65th, or zero. -/
theorem pre_untied (x : Vec Bits S8192x24576 .f32) (h : (Cert.Pre_unsigned_untied.fn (F := Bits) x).2 = fun _ => 1#1) (r : Fin 8192) :
    row x r (ord x r 64) < row x r (ord x r 63) ∨ row x r (ord x r 63) = 0 := by
  have h' : (Cert.Pre_unsigned_untied.fn (F := Bits) x).2 ix0 = 1#1 := congrFun h ix0
  pointwise [Cert.Pre_unsigned_untied.fn] at h'
  have hk := of_all _ h' r
  have h63 := topK_val (K := 65) (by norm_num) x Cert.Pre_unsigned_untied.Facts.sliceFits_S8192x24576_S8192x65 r 63
  have h64 := topK_val (K := 65) (by norm_num) x Cert.Pre_unsigned_untied.Facts.sliceFits_S8192x24576_S8192x65 r 64
  have hor : ∀ a b : BitVec 1, IntOp.ori a b = 1#1 → a = 1#1 ∨ b = 1#1 := by decide
  rcases hor _ _ hk with hk | hk
  · rw [WordCmp.cmpi_sgt_eq, WordCmp.ofBool_decide_eq_one_iff, h63, h64] at hk
    exact .inl hk
  · rw [WordCmp.cmpi_eq_eq, WordCmp.ofBool_decide_eq_one_iff, h63] at hk
    refine .inr ?_
    have := congrArg BitVec.toInt hk
    exact this

end Cert.SelectRef.Hand

end
-- ==== Proof.SelectValue.lean ====
/-
  The selection call against its reference, at the bit-level instance and under the precondition: the block each grid point stores is the
  reference's rows (`hBlock_eq`), so the first result array is the reference's (`final1`). A row of it has at most 64 positive values, so
  every sum of the count stays among the whole numbers the format holds (`totals`), and the mean count is the reference's (`mean_eq`).
-/
module

public import proofs.«01_k».proof.Proof.SelectSearch
public import proofs.«01_k».proof.Proof.SelectTop

@[expose] public section

set_option maxRecDepth 16384

noncomputable section

namespace Cert.Select.Hand

open Idealize.ShloMosaic Idealize.ShloMosaic.TcCoe Idealize.SL.Sem
open Cert.Select Cert.Select.Gen
open Cert.SelectRef.Hand (ord ord_bij ord_desc hTop hTop_at pre_sign pre_untied)

/-- The precondition, of one array. -/
abbrev Pre (P : Vec Bits S8192x24576 .f32) : Prop :=
  (Cert.Pre_unsigned_untied.fn (F := Bits) P).1 = (fun _ => 1#1) ∧ (Cert.Pre_unsigned_untied.fn (F := Bits) P).2 = fun _ => 1#1

/-- A block of rows of `P`, cut at the kernel's thresholds, is those rows of the reference's `h`. -/
theorem hBlock_eq (P : Vec Bits S8192x24576 .f32) (hP : Pre P) (x : Vec Bits S64x24576 .f32) (R : Fin 64 → Fin 8192)
    (hx : ∀ r j, x (ix2 r j) = P (ix2 (R r) j)) (r : Fin 64) (q : Fin 24576) : hBlock x (ix2 r q) = hTop P (ix2 (R r) q) := by
  obtain ⟨i, rfl⟩ := (ord_bij P (R r)).2 q
  have hrow : row x r = Cert.SelectRef.Hand.row P (R r) := by
    funext j
    exact congrArg (BitVec.toInt (n := 32)) (hx r j)
  have h0 : ∀ j, 0 ≤ Cert.SelectRef.Hand.row P (R r) j := fun j => pre_sign P hP.1 (R r) j
  have hcase : reach (Cert.SelectRef.Hand.row P (R r)) (thr x (ix2 r 0)).toInt = 64
      ∨ (64 ≤ reach (Cert.SelectRef.Hand.row P (R r)) (thr x (ix2 r 0)).toInt
        ∧ reach (Cert.SelectRef.Hand.row P (R r)) ((thr x (ix2 r 0)).toInt + 1) < 64
        ∧ (Cert.SelectRef.Hand.row P (R r) (ord P (R r) 64) < Cert.SelectRef.Hand.row P (R r) (ord P (R r) 63)
          ∨ Cert.SelectRef.Hand.row P (R r) (ord P (R r) 63) = 0)) := by
    unfold thr
    by_cases hm : missed x
    · rw [if_pos hm]
      have hs := thrE_search x r (fun j => by rw [hrow]; exact h0 j)
      rw [hrow] at hs
      have hl : (thrE x (ix2 r 0)).toInt = ((thrE x (ix2 r 0)).toNat : ℤ) := by
        refine WordCmp.toInt_eq_toNat_of_lt_half ?_
        have := hs.lt
        show _ < 2 ^ 31
        omega
      rw [hl]
      exact .inr ⟨hs.hi, by simpa using hs.next, pre_untied P hP.2 (R r)⟩
    · rw [if_neg hm]
      exact .inl (by rw [← hrow]; exact reach_of_not_missed x hm r)
  unfold hBlock
  rw [pay98_at, hTop_at, hx, hrow]
  rcases kept_eq (ord_bij P (R r)) (ord_desc P (R r) h0) h0 (K := 64) 63 64 rfl rfl _ hcase i with h | h
  · by_cases hi : i.val < 64
    · rw [if_pos hi, if_pos (h.2 hi)]
    · rw [if_neg hi, if_neg (fun hh => hi (h.1 hh))]
  · have hz : P (ix2 (R r) (ord P (R r) i)) = (FloatOps.ofBits .f32 0#32 : Bits .f32) := by
      have : BitVec.toInt (n := 32) (P (ix2 (R r) (ord P (R r) i))) = BitVec.toInt (0#32) := h
      exact BitVec.eq_of_toInt_eq this
    rw [hz, ite_self, ite_self]

variable (m : (ℓ : Loc nD τ sig) → Buf (Elt Bits) ℓ)

/-- The argument array. -/
abbrev pp (c : Dev nD) : Vec Bits S8192x24576 .f32 := m ((c.tc : Thread nD τ).loc main_arg0)

theorem N_eq : cfg0.N = 128 := N_0

/-- The row of the array that is row `r` of block `t`. -/
def rowOf (t : Fin cfg0.N) (r : Fin 64) : Fin 8192 := ⟨t.val * 64 + r.val, by have := lt_of_lt_of_eq t.isLt N_eq; omega⟩

/-- The blocks' places at a point. -/
theorem idx : ∀ t : Fin cfg0.N, win0_0.index t = ![t.val, 0] ∧ win0_1.index t = ![t.val, 0] ∧ win0_2.index t = ![0, 0] :=
  (by decide +kernel : ∀ t : Fin grid0.N, _)

theorem xblk_at (c : Dev nD) (t : Fin cfg0.N) (r : Fin 64) (q : Fin 24576) : xblk m c t (ix2 r q) = pp m c (ix2 (rowOf t r) q) := by
  blk_ext [xblk, iblk, V, rowOf, idx t]

theorem final1 (c : Dev nD) (hP : Pre (pp m c)) : (dats m 0 c).arrAt 1 (cfgs 0).N = hTop (pp m c) := by
  refine (dats m 0 c).arrAt_eq_of_covers 1 _ (by decide +kernel) fun t hf y => ?_
  blk_simp
  rw [after0_1]
  obtain ⟨r, q, rfl⟩ : ∃ (r : Fin 64) (q : Fin 24576), y = ix2 r q := ⟨y 0, y 1, eq_ix2 y⟩
  rw [hBlock_eq (pp m c) hP (xblk m c t) (rowOf t) (xblk_at m c t) r q]
  refine congrArg (hTop (pp m c)) ?_
  blk_ext [rowOf, idx t]

/-! ## The count of positive values -/

/-- One for a positive value, zero for another. -/
def pos (v : Bits .f32) : ℕ := if FloatOps.cmpf (F := Bits) (φ := .f32) .ogt v (FloatOps.ofBits .f32 0#32) = 1#1 then 1 else 0

theorem pos_zero : pos (FloatOps.ofBits .f32 0#32 : Bits .f32) = 0 := by
  have h : FloatOps.cmpf (F := Bits) (φ := .f32) .ogt (FloatOps.ofBits .f32 0#32) (FloatOps.ofBits .f32 0#32) = 0#1 := by
    have := Bits.cmpf32_ogt_nat (a := 0) (b := 0) (by norm_num) (by norm_num)
    rw [Bits.f32OfNat_zero] at this
    exact this
  unfold pos
  rw [h]
  rfl

theorem pos_le (v : Bits .f32) : pos v ≤ 1 := by unfold pos; split <;> omega

/-- The number 0 or 1 a comparison is turned into. -/
theorem bit_word (c : BitVec 1) : BitVec.setWidth 32 c = BitVec.ofNat 32 (if c = 1#1 then 1 else 0) := by
  revert c; decide

/-- That number as a float is the pattern of it. -/
theorem pos_float (v : Bits .f32) :
    FloatOps.sitofp (F := Bits) .f32 (BitVec.setWidth 32 (FloatOps.cmpf (F := Bits) (φ := .f32) .ogt v (FloatOps.ofBits .f32 0#32)))
      = Bits.f32OfNat (pos v) := by
  have h := pos_le v
  have e : BitVec.setWidth 32 (FloatOps.cmpf (F := Bits) (φ := .f32) .ogt v (FloatOps.ofBits .f32 0#32)) = BitVec.ofNat 32 (pos v) :=
    bit_word _
  rw [e]
  exact Bits.sitofp32_ofNat (by omega)

theorem pos_number (v : Bits .f32) :
    Bits.natOfF32? (FloatOps.sitofp (F := Bits) .f32 (BitVec.setWidth 32 (FloatOps.cmpf (F := Bits) (φ := .f32) .ogt v (FloatOps.ofBits .f32 0#32))))
      = some (pos v) := by
  rw [pos_float]
  exact Bits.natOfF32?_f32OfNat _ (by have := pos_le v; omega)

/-- The positive values of a block. -/
def blockCount (h : Vec Bits S64x24576 .f32) : ℕ := ∑ r : Fin 64, ∑ q : Fin 24576, pos (h (ix2 r q))

/-- A sum over the block's places, all of them in one fiber. -/
theorem fiber_sum (h : Vec Bits S64x24576 .f32) :
    ∑ i ∈ Bits.reduceFiber reduces_S1x64x24576_S1 (ix1 0), pos (h (ix2 (i 1) (i 2))) = blockCount h := by
  have e : Bits.reduceFiber reduces_S1x64x24576_S1 (ix1 0) = Finset.univ := by
    apply Finset.filter_true_of_mem
    intro i _
    rw [eq_ix1 (reduces_S1x64x24576_S1.drop i)]
    exact congrArg ix1 (Subsingleton.elim (α := Fin 1) _ _)
  rw [e]
  refine (sum_idx3 (n0 := 1) (n1 := 64) (n2 := 24576) _).trans ?_
  rw [Fin.sum_univ_one]
  rfl

/-- The kernel's sum over the block is the pattern of its count. -/
theorem total_at (x : Vec Bits S64x24576 .f32) (n : ℕ) (hn : n + blockCount (hBlock x) < 2 ^ 24) :
    total x (fun _ => Bits.f32OfNat n) = fun _ => Bits.f32OfNat (n + blockCount (hBlock x)) := by
  funext y
  have hsum : FloatOps.reduceAdd (F := Bits) (φ := .f32) [1, 2] reduces_S1x64x24576_S1
        (shapeCast S1x64x24576
          (sitofp (F := Bits) .f32 (extui 32 (cmpf .ogt (hBlock x) (broadcast S64x24576 (FloatOps.ofBits .f32 0#32 : Bits .f32))) natLt_1_32))
          shapeCasts_S64x24576_S1x64x24576)
        (ix1 0) = Bits.f32OfNat (blockCount (hBlock x)) := by
    refine (Bits.multiReduction_add_nat [1, 2] reduces_S1x64x24576_S1 _ (ix1 0) (fun i => pos (hBlock x (ix2 (i 1) (i 2)))) ?_ ?_).trans ?_
    · intro i _
      rw [eq_ix3 i]
      pointwise
      exact pos_number _
    · rw [fiber_sum]
      omega
    · rw [fiber_sum]
  unfold total
  pointwise [k0_pay2]
  rw [hsum]
  exact Bits.addf32_nat n _ hn

/-- The positive values of a row of the reference's `h` (none past the last row). -/
def rowCount (P : Vec Bits S8192x24576 .f32) (R : ℕ) : ℕ :=
  if h : R < 8192 then ∑ q : Fin 24576, pos (hTop P (ix2 ⟨R, h⟩ q)) else 0

theorem firsts (k : ℕ) : ∀ n : ℕ, (∑ i ∈ Finset.range n, (if i < k then 1 else 0)) = min n k
  | 0 => by simp
  | n + 1 => by
    rw [Finset.sum_range_succ, firsts k n]
    split <;> omega

/-- A sum of zeros and ones whose ones lie in the first `k` places. -/
theorem few {n : ℕ} (f : Fin n → ℕ) (k : ℕ) (h : ∀ i, f i ≤ if i.val < k then 1 else 0) : ∑ i, f i ≤ k :=
  calc ∑ i, f i ≤ ∑ i : Fin n, (if i.val < k then 1 else 0) := Finset.sum_le_sum fun i _ => h i
    _ = ∑ i ∈ Finset.range n, (if i < k then 1 else 0) := (Finset.sum_range (fun i => if i < k then 1 else 0)).symm
    _ ≤ k := le_of_eq_of_le (firsts k n) (min_le_right _ _)

/-- The same, in whatever order the terms stand. -/
theorem few_of_bij {n : ℕ} (o : Fin n → Fin n) (ho : Function.Bijective o) (f : Fin n → ℕ) (k : ℕ)
    (h : ∀ i, f (o i) ≤ if i.val < k then 1 else 0) : ∑ q, f q ≤ k := by
  rw [← (Equiv.ofBijective o ho).sum_comp]
  exact few (fun i => f (o i)) k h

/-- At most 64 in a row. -/
theorem rowCount_le (P : Vec Bits S8192x24576 .f32) (R : ℕ) : rowCount P R ≤ 64 := by
  unfold rowCount
  split
  · rename_i h
    refine few_of_bij _ (ord_bij P ⟨R, h⟩) (fun q => pos (hTop P (ix2 ⟨R, h⟩ q))) 64 fun i => ?_
    have e := hTop_at P ⟨R, h⟩ i
    beta_reduce
    rw [e]
    by_cases hi : i.val < 64
    · rw [if_pos hi, if_pos hi]
      exact pos_le _
    · rw [if_neg hi, if_neg hi, pos_zero]
  · omega

theorem rows_le (P : Vec Bits S8192x24576 .f32) (n : ℕ) (hn : n ≤ 8192) : ∑ R ∈ Finset.range n, rowCount P R < 2 ^ 24 := by
  have : ∑ R ∈ Finset.range n, rowCount P R ≤ ∑ R ∈ Finset.range n, 64 := Finset.sum_le_sum fun R _ => rowCount_le P R
  rw [Finset.sum_const, Finset.card_range, smul_eq_mul] at this
  omega

/-- A block's count is its rows'. -/
theorem blockCount_eq (c : Dev nD) (hP : Pre (pp m c)) (t : Fin cfg0.N) :
    blockCount (hBlock (xblk m c t)) = ∑ r ∈ Finset.range 64, rowCount (pp m c) (t.val * 64 + r) := by
  rw [Finset.sum_range]
  unfold blockCount
  refine Finset.sum_congr rfl fun r _ => ?_
  have hN := lt_of_lt_of_eq t.isLt N_eq
  rw [rowCount, dif_pos (by omega)]
  refine Finset.sum_congr rfl fun q _ => ?_
  rw [hBlock_eq (pp m c) hP (xblk m c t) (rowOf t) (xblk_at m c t) r q]
  rfl

/-- The running total after a point is the pattern of the count of the rows so far. -/
theorem totals (c : Dev nD) (hP : Pre (pp m c)) : ∀ (n : ℕ) (hn : n < cfg0.N),
    totalAt m c n hn = fun _ => Bits.f32OfNat (∑ R ∈ Finset.range ((n + 1) * 64), rowCount (pp m c) R)
  | 0, hn => by
    have hb := blockCount_eq m c hP ⟨0, hn⟩
    have hs := rows_le (pp m c) 64 (by norm_num)
    simp only [Nat.zero_mul, Nat.zero_add] at hb
    have hz : (k0_pay1 (F := Bits)) = fun _ => Bits.f32OfNat 0 := by
      funext y
      rw [Bits.f32OfNat_zero]
      rfl
    show total (xblk m c ⟨0, hn⟩) (k0_pay1 (F := Bits)) = _
    rw [hz, total_at _ 0 (by rw [hb, Nat.zero_add]; exact hs), hb]
    simp only [Nat.zero_add, Nat.one_mul]
  | n + 1, hn => by
    have hN := lt_of_lt_of_eq hn N_eq
    have hb := blockCount_eq m c hP ⟨n + 1, hn⟩
    have hs := rows_le (pp m c) ((n + 1 + 1) * 64) (by omega)
    have he : (n + 1 + 1) * 64 = (n + 1) * 64 + 64 := by omega
    rw [he, Finset.sum_range_add] at hs ⊢
    show total (xblk m c ⟨n + 1, hn⟩) (totalAt m c n _) = _
    rw [totals c hP n, total_at _ _ (by rw [hb]; exact hs), hb]

theorem final2 (c : Dev nD) (hP : Pre (pp m c)) :
    (dats m 0 c).arrAt 2 (cfgs 0).N = fun _ => Bits.f32OfNat (∑ R ∈ Finset.range 8192, rowCount (pp m c) R) := by
  refine (dats m 0 c).arrAt_eq_of_covers 2 _ (by decide +kernel) fun t hf y => ?_
  have h3 := (flush0_2 t).mp hf
  have hN := lt_of_lt_of_eq t.isLt N_eq
  have e : t.val = 127 := by omega
  blk_simp
  rw [after0_2, totals m c hP t.val t.isLt, e]

/-! ## The reference's count -/

open Cert.SelectRef.Hand (zeros) in
/-- The reference's count as a number. -/
theorem ref_count (P : Vec Bits S8192x24576 .f32) :
    sitofp (F := Bits) .f32 (Host.reduce IntOp.addi (extui 32 (cmpf (F := Bits) (φ := .f32) .ogt (hTop P) zeros) Cert.SelectRef.Gen.natLt_1_32)
        (constantI Cert.SelectRef.S_ 32 0#32) Cert.SelectRef.Gen.reducesTo_S8192x24576_S_d0_1 Cert.SelectRef.Gen.h_S_)
      = fun _ => Bits.f32OfNat (∑ R ∈ Finset.range 8192, rowCount P R) := by
  funext y
  pointwise [zeros]
  rw [IndicatorCount.fold_addi_setWidth_eq_card (fun k : Fin 8192 × Fin 24576 =>
    FloatOps.cmpf (F := Bits) (φ := .f32) .ogt (hTop P (ix2 k.1 k.2)) (FloatOps.ofBits .f32 0#32))]
  have hs := rows_le P 8192 le_rfl
  have e : (Finset.univ.filter fun k : Fin 8192 × Fin 24576 =>
      FloatOps.cmpf (F := Bits) (φ := .f32) .ogt (hTop P (ix2 k.1 k.2)) (FloatOps.ofBits .f32 0#32) = 1#1).card
        = ∑ R ∈ Finset.range 8192, rowCount P R := by
    rw [Finset.card_filter, Fintype.sum_prod_type, Finset.sum_range]
    refine Finset.sum_congr rfl fun R _ => ?_
    rw [rowCount, dif_pos R.isLt]
    rfl
  rw [e]
  exact Bits.sitofp32_ofNat (lt_trans hs (by norm_num))

/-! ## The run -/

/-- The mean count of a row, from the sum the kernel leaves. -/
abbrev meanOf (a : FVec Bits S1x1 .f32) : FVec Bits S_ .f32 :=
  Host.divf (shapeCast S_ a shapeCasts_S1x1_S_) (constant S_ .f32 0x46000000#32)

theorem arr_after (c : Dev nD) (w : Fin 3) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 (by decide) c (V0 m c) _ w

theorem tail2 (c : Dev nD) (hP : Pre (pp m c)) : Pipeline.afterTail₀ cfgs (dats m) 0 (V0 m) [hostOps1] c main_v2
    = meanOf (fun _ => Bits.f32OfNat (∑ R ∈ Finset.range 8192, rowCount (pp m c) R)) := by
  unfold Pipeline.afterTail₀
  simp only [List.flatten_cons, List.flatten_nil, List.append_nil]
  after_results
  have e := (arr_after m c 2).trans (final2 m c hP)
  exact congrArg meanOf e

/-- The run: the kept values, the mean count, the argument unchanged. -/
theorem run (g : Dev nD → PrngReg) (hP : ∀ c, Pre (pp m c)) :
    θ_run defs (onTc (τ := τ) (main (F := Bits))) ⟨m, fun _ => 0, g⟩ (fun r => ∀ c : Dev nD,
      r.2.mem ((c.tc : Thread nD τ).loc main_v0_0) = hTop (pp m c)
      ∧ r.2.mem ((c.tc : Thread nD τ).loc main_v2) = meanOf (fun _ => Bits.f32OfNat (∑ R ∈ Finset.range 8192, rowCount (pp m c) R))
      ∧ r.2.mem ((c.tc : Thread nD τ).loc main_arg0) = m ((c.tc : Thread nD τ).loc main_arg0)) :=
  (θ_run defs _ _).mono (fun r h c =>
      ⟨((h.2 c).1 1).trans (final1 m c (hP c)),
       ((h.2 c).2 main_v2 (Pipeline.mem_restRefs_of main_v2 (by decide) (by decide))).trans (tail2 m c (hP c)), h.1 c⟩)
    (θ_run_and (unchanged m g) (run_main m g))

/-- The reference's mean is the kernel's. -/
theorem mean_eq (P : Vec Bits S8192x24576 .f32) :
    Host.divf (sitofp (F := Bits) .f32 (Host.reduce IntOp.addi (extui 32 (cmpf (F := Bits) (φ := .f32) .ogt (hTop P) Cert.SelectRef.Hand.zeros) Cert.SelectRef.Gen.natLt_1_32)
        (constantI Cert.SelectRef.S_ 32 0#32) Cert.SelectRef.Gen.reducesTo_S8192x24576_S_d0_1 Cert.SelectRef.Gen.h_S_))
        (constant Cert.SelectRef.S_ .f32 0x46000000#32)
      = meanOf (fun _ => Bits.f32OfNat (∑ R ∈ Finset.range 8192, rowCount P R)) := by
  rw [ref_count]
  rfl

end Cert.Select.Hand

end
-- ==== Proof.EncodeValue.lean ====
module

public import proofs.«01_k».proof.Proof.Gen.EncodeIdeal.Frame
public import proofs.«01_k».proof.Proof.Gen.EncodeRefIdeal
public import Idealize.ShloMosaic.Lib.Pipeline.ValueKit
public import Idealize.ShloMosaic.Lib.Claim

/-! # The encoder call at exact arithmetic: its result array is the reference's term -/

@[expose] public section

set_option maxRecDepth 16384

noncomputable section

namespace Cert.EncodeIdeal.Hand

open Idealize.ShloMosaic Idealize.ShloMosaic.TcCoe Idealize.SL.Sem
open Idealize.ShloMosaic.Pipeline (Dat)
open Cert.EncodeIdeal Cert.EncodeIdeal.Gen

variable (m : (ℓ : Loc nD τ sig) → Buf (Elt Ideal) ℓ)

/-- The reference's result over the arguments: the rectified affine map. -/
abbrev REF (X : FVec Ideal Cert.EncodeRefIdeal.S8192x768 .f32) (Wt : FVec Ideal Cert.EncodeRefIdeal.S24576x768 .f32)
    (be : FVec Ideal Cert.EncodeRefIdeal.S24576 .f32) (bd : FVec Ideal Cert.EncodeRefIdeal.S768 .f32) :
    FVec Ideal Cert.EncodeRefIdeal.S8192x24576 .f32 :=
  maximumf (addf (Host.dotGeneral Cert.EncodeRefIdeal.dot_S8192x768_S768x24576_S8192x24576_1_0_0_1_n_n none
      (subf X (broadcastInDim Cert.EncodeRefIdeal.S8192x768 ![0, 1] Cert.EncodeRefIdeal.Gen.bcast_S1x768_S8192x768_0_1
        (broadcastInDim Cert.EncodeRefIdeal.S1x768 ![1] Cert.EncodeRefIdeal.Gen.bcast_S768_S1x768_1 bd)))
      (transpose Cert.EncodeRefIdeal.S768x24576 [1, 0] Wt Cert.EncodeRefIdeal.Gen.transposes_S24576x768_S768x24576_1_0))
    (broadcastInDim Cert.EncodeRefIdeal.S8192x24576 ![0, 1] Cert.EncodeRefIdeal.Gen.bcast_S1x24576_S8192x24576_0_1
      (broadcastInDim Cert.EncodeRefIdeal.S1x24576 ![1] Cert.EncodeRefIdeal.Gen.bcast_S24576_S1x24576_1 be)))
    (broadcastInDim Cert.EncodeRefIdeal.S8192x24576 ![] Cert.EncodeRefIdeal.Gen.bcast_S_S8192x24576
      (constant Cert.EncodeRefIdeal.S_ .f32 0x00000000#32))

/-- The blocks' places at a point. -/
theorem idx : ∀ t : Fin cfg0.N, win0_0.index t = ![t.val % 16, 0] ∧ win0_1.index t = ![t.val / 16, 0]
    ∧ win0_2.index t = ![0, t.val / 16] ∧ win0_3.index t = ![0, 0] ∧ win0_4.index t = ![t.val % 16, t.val / 16] :=
  (by decide +kernel : ∀ t : Fin grid0.N, _)

/-- What a point stores is the reference's term at the place of the block. -/
theorem point (c : Dev nD) (t : Fin cfg0.N) (y) : k0_pay1 (iblk m c 0 t) (iblk m c 3 t) (iblk m c 1 t) (iblk m c 2 t) y
    = REF (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, REF]
  blk_point [iblk, V, idx t]

/-- The result array after the run. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.EncodeIdeal.Hand

end
-- ==== Proof.DecodeSteps.lean ====
module

public import proofs.«01_k».proof.Proof.Gen.DecodeIdeal.Frame
public import Idealize.ShloMosaic.Lib.Pipeline.ValueKit
public import Idealize.ShloMosaic.Lib.Claim

/-! # The decoder call at exact arithmetic: what each point leaves in the four results' buffers -/

@[expose] public section

set_option maxRecDepth 16384

noncomputable section

namespace Cert.DecodeIdeal.Hand

open Idealize.ShloMosaic Idealize.ShloMosaic.TcCoe Idealize.SL.Sem
open Idealize.ShloMosaic.Pipeline (Dat)
open Cert.DecodeIdeal Cert.DecodeIdeal.Gen

variable (m : (ℓ : Loc nD τ sig) → Buf (Elt Ideal) ℓ)

/-- What the point before leaves in the four buffers. -/
abbrev before (c : Dev nD) (t : Fin cfg0.N) := outsAt0 m c (t.val - 1) (Nat.lt_of_le_of_lt (Nat.sub_le _ _) t.isLt)

theorem left_A (c : Dev nD) (t : Fin cfg0.N) (h0 : t.val % 12 = 0) (h2 : t.val % 96 = 0) :
    (outsAt0 m c t.val t.isLt).1 = k0_pay1 (iblk m c 0 t) (iblk m c 1 t)
      ∧ (outsAt0 m c t.val t.isLt).2.1 = k0_pay3 (F := Ideal)
      ∧ (outsAt0 m c t.val t.isLt).2.2.1 = k0_pay4 (F := Ideal) ∧ (outsAt0 m c t.val t.isLt).2.2.2 = k0_pay5 (F := Ideal) := by
  rw [outsAt0_A m c t h0 (by omega) h2 (by omega)]
  refine ⟨?_, ?_, ?_, ?_⟩ <;> first | (frame_out; done) | exact View.read_unread _ _ | rfl

theorem left_B (c : Dev nD) (t : Fin cfg0.N) (h0 : ¬t.val % 12 = 0) (h3 : ¬t.val % 12 = 11) :
    (outsAt0 m c t.val t.isLt).1 = k0_pay2 (iblk m c 0 t) (iblk m c 1 t) (before m c t).1
      ∧ (outsAt0 m c t.val t.isLt).2.1 = (before m c t).2.1
      ∧ (outsAt0 m c t.val t.isLt).2.2.1 = (before m c t).2.2.1 ∧ (outsAt0 m c t.val t.isLt).2.2.2 = (before m c t).2.2.2 := by
  rw [outsAt0_B m c t h0 (by omega) (by omega) h3]
  refine ⟨?_, ?_, ?_, ?_⟩ <;> first | (frame_out; done) | exact View.read_unread _ _ | rfl

theorem left_C (c : Dev nD) (t : Fin cfg0.N) (h3 : t.val % 12 = 11) :
    (outsAt0 m c t.val t.isLt).1 = k0_pay6 (k0_pay2 (iblk m c 0 t) (iblk m c 1 t) (before m c t).1) (iblk m c 3 t)
      ∧ (outsAt0 m c t.val t.isLt).2.1 = k0_pay7 (k0_pay2 (iblk m c 0 t) (iblk m c 1 t) (before m c t).1) (iblk m c 3 t)
          (iblk m c 2 t) (before m c t).2.1
      ∧ (outsAt0 m c t.val t.isLt).2.2.1 = k0_pay8 (iblk m c 2 t) (before m c t).2.2.1
      ∧ (outsAt0 m c t.val t.isLt).2.2.2 = k0_pay9 (iblk m c 2 t) (before m c t).2.2.2 := by
  rw [outsAt0_C m c t (by omega) (by omega) (by omega) h3]
  refine ⟨?_, ?_, ?_, ?_⟩ <;> first | (frame_out; done) | exact View.read_unread _ _ | rfl

theorem left_D (c : Dev nD) (t : Fin cfg0.N) (h0 : t.val % 12 = 0) (h2 : ¬t.val % 96 = 0) :
    (outsAt0 m c t.val t.isLt).1 = k0_pay1 (iblk m c 0 t) (iblk m c 1 t)
      ∧ (outsAt0 m c t.val t.isLt).2.1 = (before m c t).2.1
      ∧ (outsAt0 m c t.val t.isLt).2.2.1 = (before m c t).2.2.1 ∧ (outsAt0 m c t.val t.isLt).2.2.2 = (before m c t).2.2.2 := by
  rw [outsAt0_D m c t h0 (by omega) h2 (by omega)]
  refine ⟨?_, ?_, ?_, ?_⟩ <;> first | (frame_out; done) | exact View.read_unread _ _ | rfl

end Cert.DecodeIdeal.Hand

end
-- ==== Proof.DecodeValue.lean ====
module

public import proofs.«01_k».proof.Proof.DecodeSteps
public import proofs.«01_k».proof.Proof.Gen.DecodeRefIdeal

/-! # The decoder call at exact arithmetic: its four result arrays as sums over the arguments -/

@[expose] public section

set_option maxRecDepth 16384

noncomputable section

namespace Cert.DecodeIdeal.Hand

open Idealize.ShloMosaic Idealize.ShloMosaic.TcCoe Idealize.SL.Sem
open Idealize.ShloMosaic.Pipeline (Dat)
open Cert.DecodeIdeal Cert.DecodeIdeal.Gen
open Finset (range)

variable (m : (ℓ : Loc nD τ sig) → Buf (Elt Ideal) ℓ)

/-- The reference's reconstruction: the features through the decoder's matrix, plus the bias. -/
abbrev REC (H : FVec Ideal Cert.DecodeRefIdeal.S8192x24576 .f32) (W : FVec Ideal Cert.DecodeRefIdeal.S768x24576 .f32)
    (BD : FVec Ideal Cert.DecodeRefIdeal.S768 .f32) : FVec Ideal Cert.DecodeRefIdeal.S8192x768 .f32 :=
  addf (Host.dotGeneral Cert.DecodeRefIdeal.dot_S8192x24576_S24576x768_S8192x768_1_0_0_1_n_n none H
      (transpose Cert.DecodeRefIdeal.S24576x768 [1, 0] W Cert.DecodeRefIdeal.Gen.transposes_S768x24576_S24576x768_1_0))
    (broadcastInDim Cert.DecodeRefIdeal.S8192x768 ![0, 1] Cert.DecodeRefIdeal.Gen.bcast_S1x768_S8192x768_0_1
      (broadcastInDim Cert.DecodeRefIdeal.S1x768 ![1] Cert.DecodeRefIdeal.Gen.bcast_S768_S1x768_1 BD))

theorem REC_at (H W BD) (y) : REC H W BD y = ∑ k : Fin 24576, H (ix2 (y 0) k) * W (ix2 (y 1) k) + BD (ix1 (y 1)) := by
  pointwise [REC]

theorem REC_row (H W BD) (r : Fin 8192) (q : Fin 768) :
    REC H W BD (ix2 r q) = ∑ k : Fin 24576, H (ix2 r k) * W (ix2 q k) + BD (ix1 q) := by
  pointwise [REC]

/-- The arguments, at a device. -/
abbrev hh (c : Dev nD) : FVec Ideal Cert.DecodeRefIdeal.S8192x24576 .f32 := m ((c : Thread nD τ).loc main_arg0)
abbrev ww (c : Dev nD) : FVec Ideal Cert.DecodeRefIdeal.S768x24576 .f32 := m ((c : Thread nD τ).loc main_arg1)
abbrev xx (c : Dev nD) : FVec Ideal Cert.DecodeRefIdeal.S8192x768 .f32 := m ((c : Thread nD τ).loc main_arg2)
abbrev bb (c : Dev nD) : FVec Ideal Cert.DecodeRefIdeal.S768 .f32 := m ((c : Thread nD τ).loc main_arg3)

/-- The blocks' places at a point. -/
theorem idx : ∀ t : Fin cfg0.N, win0_0.index t = ![t.val / 12, t.val % 12] ∧ win0_1.index t = ![0, t.val % 12]
    ∧ win0_2.index t = ![t.val / 12, 0] ∧ win0_3.index t = ![0, 0] ∧ win0_4.index t = ![t.val / 12, 0] :=
  (by decide +kernel : ∀ t : Fin grid0.N, _)

theorem idx6 : ∀ t : Fin cfg0.N, win0_6.index t = ![0, 0] := (by decide +kernel : ∀ t : Fin grid0.N, _)

theorem N_eq : cfg0.N = 96 := N_0

/-- The two operands the host prepares: the matrix, its format changed, and the bias as one row. -/
theorem V_v0 (c : Dev nD) : V m c main_v0 = (truncf .bf16 (ww m c) bitsLt_bf16_f32 : FVec Ideal S768x24576 .bf16) := by
  simp only [V, V0, List.flatten_cons, List.flatten_nil, List.append_nil]
  after_results
theorem V_v1 (c : Dev nD) : V m c main_v1 = (shapeCast S1x768 (bb m c) shapeCasts_S768_S1x768 : FVec Ideal S1x768 .f32) := by
  simp only [V, V0, List.flatten_cons, List.flatten_nil, List.append_nil]
  after_results
  rfl

/-! ## The payloads at an index -/

theorem pay1_at (h w) (y) : k0_pay1 (F := Ideal) h w y = ∑ k : Fin 2048, h (ix2 (y 0) k) * w (ix2 (y 1) k) := by
  pointwise [k0_pay1]
theorem pay2_at (h w a) (y) : k0_pay2 (F := Ideal) h w a y = a y + k0_pay1 h w y := by
  pointwise [k0_pay2]
theorem pay6_at (a b) (y) : k0_pay6 (F := Ideal) a b y = a y + b (ix2 0 (y 1)) := by
  pointwise [k0_pay6]
theorem pay7_at (a b x v) (y) : k0_pay7 (F := Ideal) a b x v y
    = v y + ∑ r : Fin 1024, ∑ q : Fin 768, (k0_pay6 a b (ix2 r q) - x (ix2 r q)) * (k0_pay6 a b (ix2 r q) - x (ix2 r q)) := by
  pointwise [k0_pay7, k0_pay6]
theorem pay8_at (x v) (y) : k0_pay8 (F := Ideal) x v y = v y + ∑ r : Fin 1024, x (ix2 r (y 1)) := by
  pointwise [k0_pay8]
theorem pay9_at (x v) (y) : k0_pay9 (F := Ideal) x v y = v y + ∑ r : Fin 1024, ∑ q : Fin 768, x (ix2 r q) * x (ix2 r q) := by
  pointwise [k0_pay9]
theorem pay3_at (y) : k0_pay3 (F := Ideal) y = 0 := by pointwise [k0_pay3]
theorem pay4_at (y) : k0_pay4 (F := Ideal) y = 0 := by pointwise [k0_pay4]
theorem pay5_at (y) : k0_pay5 (F := Ideal) y = 0 := by pointwise [k0_pay5]

/-! ## The reconstruction's block -/

/-- A point's share of the product (zero past the grid). -/
def part (c : Dev nD) (n : ℕ) (y : S1024x768.Idx) : EReal :=
  if h : n < cfg0.N then k0_pay1 (iblk m c 0 ⟨n, h⟩) (iblk m c 1 ⟨n, h⟩) y else 0

theorem part_eq (c : Dev nD) (t : Fin cfg0.N) (y) : k0_pay1 (iblk m c 0 t) (iblk m c 1 t) y = part m c t.val y := by
  unfold part; rw [dif_pos t.isLt]

/-- Before the last point of a row of blocks, the buffer holds the shares so far. -/
theorem partial_sum (c : Dev nD) : ∀ (n : ℕ) (hn : n < cfg0.N) (h : n % 12 ≠ 11) (y : S1024x768.Idx),
    (outsAt0 m c n hn).1 y = ∑ s ∈ range (n % 12 + 1), part m c (n / 12 * 12 + s) y
  | 0, hn, h, y => by
    show (outsAt0 m c ((⟨0, hn⟩ : Fin cfg0.N).val) _).1 y = _
    rw [(left_A m c ⟨0, hn⟩ rfl rfl).1, part_eq]
    simp
  | n + 1, hn, h, y => by
    show (outsAt0 m c ((⟨n + 1, hn⟩ : Fin cfg0.N).val) _).1 y = _
    by_cases h0 : (n + 1) % 12 = 0
    · have e : (outsAt0 m c ((⟨n + 1, hn⟩ : Fin cfg0.N).val) hn).1 = k0_pay1 (iblk m c 0 ⟨n + 1, hn⟩) (iblk m c 1 ⟨n + 1, hn⟩) := by
        by_cases h2 : (n + 1) % 96 = 0
        · exact (left_A m c ⟨n + 1, hn⟩ h0 h2).1
        · exact (left_D m c ⟨n + 1, hn⟩ h0 h2).1
      rw [e, part_eq, h0]
      have : (n + 1) / 12 * 12 = n + 1 := by omega
      simp [this]
    · rw [(left_B m c ⟨n + 1, hn⟩ h0 h).1, pay2_at, part_eq]
      have ih := partial_sum c n (Nat.lt_of_succ_lt hn) (by omega) y
      have e1 : (n + 1) % 12 = n % 12 + 1 := by omega
      have e2 : (n + 1) / 12 = n / 12 := by omega
      rw [e1, e2, Finset.sum_range_succ]
      refine congrArg₂ (· + ·) ih ?_
      show part m c (n + 1) y = _
      congr 1; omega

/-- The features' and the matrix's blocks at a point. -/
abbrev hblk (c : Dev nD) (t : Fin cfg0.N) : FVec Ideal S1024x2048 .f32 := iblk m c 0 t
abbrev wblk (c : Dev nD) (t : Fin cfg0.N) : FVec Ideal S768x2048 .bf16 := iblk m c 1 t

/-- The points of a row of blocks. -/
def pt (t : Fin cfg0.N) (s : Fin 12) : Fin cfg0.N :=
  ⟨t.val / 12 * 12 + s, by have := lt_of_lt_of_eq t.isLt N_eq; have := N_eq; omega⟩
theorem pt_val (t : Fin cfg0.N) (s : Fin 12) : (pt t s).val = t.val / 12 * 12 + s := rfl

/-- The reconstruction's block at the last point of its row. -/
theorem full_block (c : Dev nD) (t : Fin cfg0.N) (h3 : t.val % 12 = 11) (r : Fin 1024) (q : Fin 768) :
    k0_pay6 (k0_pay2 (iblk m c 0 t) (iblk m c 1 t) (before m c t).1) (iblk m c 3 t) (ix2 r q)
      = REC (hh m c) (ww m c) (bb m c) (ix2 ⟨t.val / 12 * 1024 + r, by have := lt_of_lt_of_eq t.isLt N_eq; omega⟩ q) := by
  have hN := lt_of_lt_of_eq t.isLt N_eq
  rw [pay6_at, pay2_at, part_eq, REC_row]
  refine congrArg₂ (· + ·) ?_ ?_
  · have e1 : (t.val - 1) % 12 + 1 = 11 := by omega
    have e2 : (t.val - 1) / 12 = t.val / 12 := by omega
    have hb : (before m c t).1 (ix2 r q) = ∑ s ∈ range 11, part m c (t.val / 12 * 12 + s) (ix2 r q) :=
      (partial_sum m c (t.val - 1) (Nat.lt_of_le_of_lt (Nat.sub_le _ _) t.isLt) (by omega) (ix2 r q)).trans (by rw [e1, e2])
    rw [hb]
    have : ∑ s ∈ range 11, part m c (t.val / 12 * 12 + s) (ix2 r q) + part m c t.val (ix2 r q)
        = ∑ s ∈ range 12, part m c (t.val / 12 * 12 + s) (ix2 r q) := by
      have e3 : t.val / 12 * 12 + 11 = t.val := by omega
      rw [Finset.sum_range_succ _ 11, e3]
    rw [this, Finset.sum_range]
    have hs : ∀ s : Fin 12, part m c (t.val / 12 * 12 + s) (ix2 r q)
        = ∑ k : Fin 2048, hblk m c (pt t s) (ix2 r k) * wblk m c (pt t s) (ix2 q k) := fun s =>
      (part_eq m c (pt t s) (ix2 r q)).symm.trans (pay1_at _ _ _)
    simp only [hs]
    refine Fin.sum_mul_add_congr fun s k hl => ?_
    have hp := pt_val t s
    have hi := idx (pt t s)
    have hd : (pt t s).val / 12 = t.val / 12 := by omega
    have hm : (pt t s).val % 12 = s := by omega
    rw [hd, hm] at hi
    blk_simp [hblk, wblk, iblk, hi]
    rw [V_v0]
    pointwise
    blk_point [V, hi]
  · blk_simp [iblk, idx t]
    rw [V_v1]
    pointwise
    blk_ext [idx t]

theorem full_block_at (c : Dev nD) (t : Fin cfg0.N) (h3 : t.val % 12 = 11) (y : S1024x768.Idx) :
    k0_pay6 (k0_pay2 (iblk m c 0 t) (iblk m c 1 t) (before m c t).1) (iblk m c 3 t) y
      = REC (hh m c) (ww m c) (bb m c) (((cfg0.win 4).blk t).view.emb y) := by
  obtain ⟨r, q, rfl⟩ : ∃ (r : Fin 1024) (q : Fin 768), y = ix2 r q := ⟨y 0, y 1, eq_ix2 y⟩
  rw [full_block m c t h3]
  refine congrArg (REC (hh m c) (ww m c) (bb m c)) ?_
  blk_ext [idx t]

theorem final4 (c : Dev nD) : (dats m 0 c).arrAt 4 (cfgs 0).N = REC (hh m c) (ww m c) (bb m c) := by
  refine (dats m 0 c).arrAt_eq_of_covers 4 _ (by decide +kernel) fun t hf y => ?_
  have h3 := (flush0_4 t).mp hf
  blk_simp
  rw [after0_4, (left_C m c t h3).1]
  exact full_block_at m c t h3 y

/-! ## The three running sums -/

/-- A row's sum of squared differences, a row of the input, a row's sum of squares (zero past the last row). -/
def rowE (c : Dev nD) (R : ℕ) : EReal := if h : R < 8192 then
  ∑ q : Fin 768, (REC (hh m c) (ww m c) (bb m c) (ix2 ⟨R, h⟩ q) - xx m c (ix2 ⟨R, h⟩ q))
    * (REC (hh m c) (ww m c) (bb m c) (ix2 ⟨R, h⟩ q) - xx m c (ix2 ⟨R, h⟩ q)) else 0
def rowX (c : Dev nD) (q : Fin 768) (R : ℕ) : EReal := if h : R < 8192 then xx m c (ix2 ⟨R, h⟩ q) else 0
def rowS (c : Dev nD) (R : ℕ) : EReal := if h : R < 8192 then
  ∑ q : Fin 768, xx m c (ix2 ⟨R, h⟩ q) * xx m c (ix2 ⟨R, h⟩ q) else 0

theorem x_block (c : Dev nD) (t : Fin cfg0.N) (r : Fin 1024) (q : Fin 768) (h : t.val / 12 * 1024 + r.val < 8192) :
    iblk m c 2 t (ix2 r q) = xx m c (ix2 ⟨t.val / 12 * 1024 + r, h⟩ q) := by
  blk_ext [iblk, V, idx t]

theorem step7 (c : Dev nD) (t : Fin cfg0.N) (h3 : t.val % 12 = 11) (v) (y) :
    k0_pay7 (k0_pay2 (iblk m c 0 t) (iblk m c 1 t) (before m c t).1) (iblk m c 3 t) (iblk m c 2 t) v y
      = v y + ∑ r : Fin 1024, rowE m c (t.val / 12 * 1024 + r) := by
  have hN := lt_of_lt_of_eq t.isLt N_eq
  rw [pay7_at]
  refine congrArg _ (Finset.sum_congr rfl fun r _ => ?_)
  rw [rowE, dif_pos (by omega)]
  refine Finset.sum_congr rfl fun q _ => ?_
  rw [full_block m c t h3, x_block]

theorem step8 (c : Dev nD) (t : Fin cfg0.N) (v) (y) :
    k0_pay8 (iblk m c 2 t) v y = v y + ∑ r : Fin 1024, rowX m c (y 1) (t.val / 12 * 1024 + r) := by
  have hN := lt_of_lt_of_eq t.isLt N_eq
  rw [pay8_at]
  refine congrArg _ (Finset.sum_congr rfl fun r _ => ?_)
  have h : t.val / 12 * 1024 + r.val < 8192 := by omega
  refine (x_block m c t r (y 1) h).trans ?_
  unfold rowX
  split
  · rfl
  · exact absurd h ‹_›

theorem step9 (c : Dev nD) (t : Fin cfg0.N) (v) (y) :
    k0_pay9 (iblk m c 2 t) v y = v y + ∑ r : Fin 1024, rowS m c (t.val / 12 * 1024 + r) := by
  have hN := lt_of_lt_of_eq t.isLt N_eq
  rw [pay9_at]
  refine congrArg _ (Finset.sum_congr rfl fun r _ => ?_)
  rw [rowS, dif_pos (by omega)]
  refine Finset.sum_congr rfl fun q _ => ?_
  rw [x_block]

/-- What the rows of blocks finished by a point add up to. -/
abbrev upTo (G : ℕ → EReal) (n : ℕ) : EReal := ∑ i ∈ range ((n + 1) / 12), ∑ r : Fin 1024, G (i * 1024 + r)

theorem upTo_idle (G : ℕ → EReal) (n : ℕ) (h : (n + 1) % 12 ≠ 11) : upTo G n = upTo G (n + 1) := by
  have e : (n + 1 + 1) / 12 = (n + 1) / 12 := by omega
  simp only [upTo, e]

theorem upTo_step (G : ℕ → EReal) (n : ℕ) (h : (n + 1) % 12 = 11) :
    upTo G n + ∑ r : Fin 1024, G ((n + 1) / 12 * 1024 + r) = upTo G (n + 1) := by
  have e : (n + 1 + 1) / 12 = (n + 1) / 12 + 1 := by omega
  simp only [upTo, e, Finset.sum_range_succ]

theorem totals (c : Dev nD) : ∀ (n : ℕ) (hn : n < cfg0.N),
    (∀ y, (outsAt0 m c n hn).2.1 y = upTo (rowE m c) n) ∧ (∀ y : S1x768.Idx, (outsAt0 m c n hn).2.2.1 y = upTo (rowX m c (y 1)) n)
      ∧ (∀ y, (outsAt0 m c n hn).2.2.2 y = upTo (rowS m c) n)
  | 0, hn => by
    obtain ⟨-, h5, h6, h7⟩ := left_A m c ⟨0, hn⟩ rfl rfl
    refine ⟨fun y => (congrFun h5 y).trans ?_, fun y => (congrFun h6 y).trans ?_, fun y => (congrFun h7 y).trans ?_⟩
    · rw [pay3_at]; simp [upTo]
    · rw [pay4_at]; simp [upTo]
    · rw [pay5_at]; simp [upTo]
  | n + 1, hn => by
    obtain ⟨i5, i6, i7⟩ := totals c n (Nat.lt_of_succ_lt hn)
    have hN := lt_of_lt_of_eq hn N_eq
    by_cases h3 : (n + 1) % 12 = 11
    · obtain ⟨-, h5, h6, h7⟩ := left_C m c ⟨n + 1, hn⟩ h3
      refine ⟨fun y => (congrFun h5 y).trans ?_, fun y => (congrFun h6 y).trans ?_, fun y => (congrFun h7 y).trans ?_⟩
      · rw [step7 m c ⟨n + 1, hn⟩ h3, ← upTo_step _ _ h3]; exact congrArg (· + _) (i5 y)
      · rw [step8 m c ⟨n + 1, hn⟩, ← upTo_step _ _ h3]; exact congrArg (· + _) (i6 y)
      · rw [step9 m c ⟨n + 1, hn⟩, ← upTo_step _ _ h3]; exact congrArg (· + _) (i7 y)
    · have hk : (outsAt0 m c (n + 1) hn).2.1 = (outsAt0 m c n (Nat.lt_of_succ_lt hn)).2.1
          ∧ (outsAt0 m c (n + 1) hn).2.2.1 = (outsAt0 m c n (Nat.lt_of_succ_lt hn)).2.2.1
          ∧ (outsAt0 m c (n + 1) hn).2.2.2 = (outsAt0 m c n (Nat.lt_of_succ_lt hn)).2.2.2 := by
        by_cases h0 : (n + 1) % 12 = 0
        · exact (left_D m c ⟨n + 1, hn⟩ h0 (by simp only; omega)).2
        · exact (left_B m c ⟨n + 1, hn⟩ h0 h3).2
      refine ⟨fun y => (congrFun hk.1 y).trans ?_, fun y => (congrFun hk.2.1 y).trans ?_, fun y => (congrFun hk.2.2 y).trans ?_⟩
      · rw [← upTo_idle _ _ h3]; exact i5 y
      · rw [← upTo_idle _ _ h3]; exact i6 y
      · rw [← upTo_idle _ _ h3]; exact i7 y

/-- After the last point: all rows. -/
theorem upTo_all (G : ℕ → EReal) : upTo G 95 = ∑ R : Fin 8192, G R := by
  rw [upTo, show (95 + 1) / 12 = 8 from rfl, Finset.sum_range]
  refine Fin.sum_mul_add_congr fun s k hl => rfl

theorem final5 (c : Dev nD) : (dats m 0 c).arrAt 5 (cfgs 0).N = fun _ => ∑ R : Fin 8192, rowE m c R := by
  refine (dats m 0 c).arrAt_eq_of_covers 5 _ (by decide +kernel) fun t hf y => ?_
  have h3 := (flush0_5 t).mp hf
  have hN := lt_of_lt_of_eq t.isLt N_eq
  have e : t.val = 95 := by omega
  blk_simp
  rw [after0_5]
  exact ((totals m c t.val t.isLt).1 y).trans (by rw [e, upTo_all])

theorem final6 (c : Dev nD) : (dats m 0 c).arrAt 6 (cfgs 0).N = fun y => ∑ R : Fin 8192, rowX m c (y 1) R := by
  refine (dats m 0 c).arrAt_eq_of_covers 6 _ (by decide +kernel) fun t hf y => ?_
  have h3 := (flush0_6 t).mp hf
  have hN := lt_of_lt_of_eq t.isLt N_eq
  have e : t.val = 95 := by omega
  blk_simp
  rw [after0_6]
  refine ((totals m c t.val t.isLt).2.1 y).trans ?_
  rw [e, upTo_all]
  refine Finset.sum_congr rfl fun R _ => congrArg (fun q => rowX m c q R) ?_
  refine Fin.ext ?_
  blk_simp [idx6 t]
  try omega

theorem final7 (c : Dev nD) : (dats m 0 c).arrAt 7 (cfgs 0).N = fun _ => ∑ R : Fin 8192, rowS m c R := by
  refine (dats m 0 c).arrAt_eq_of_covers 7 _ (by decide +kernel) fun t hf y => ?_
  have h3 := (flush0_7 t).mp hf
  have hN := lt_of_lt_of_eq t.isLt N_eq
  have e : t.val = 95 := by omega
  blk_simp
  rw [after0_7]
  exact ((totals m c t.val t.isLt).2.2 y).trans (by rw [e, upTo_all])

end Cert.DecodeIdeal.Hand

end
-- ==== Proof.DecodeRun.lean ====
module

public import proofs.«01_k».proof.Proof.DecodeValue

/-! # The decoder call at exact arithmetic: its run, the host's lines after the kernel included -/

@[expose] public section

set_option maxRecDepth 16384

noncomputable section

namespace Cert.DecodeIdeal.Hand

open Idealize.ShloMosaic Idealize.ShloMosaic.TcCoe Idealize.SL.Sem
open Cert.DecodeIdeal Cert.DecodeIdeal.Gen

variable (m : (ℓ : Loc nD τ sig) → Buf (Elt Ideal) ℓ)

/-- The mean squared error, from the sum the kernel leaves. -/
abbrev lossOf (a : FVec Ideal S1x1 .f32) : FVec Ideal S_ .f32 :=
  Host.divf (shapeCast S_ a shapeCasts_S1x1_S_) (constant S_ .f32 0x4AC00000#32)

/-- The explained variance, from the three sums the kernel leaves. -/
abbrev explOf (a : FVec Ideal S1x1 .f32) (b : FVec Ideal S1x768 .f32) (s : FVec Ideal S1x1 .f32) : FVec Ideal S_ .f32 :=
  subf (constant S_ .f32 0x3F800000#32) (Host.divf (shapeCast S_ a shapeCasts_S1x1_S_)
    (addf (subf (shapeCast S_ s shapeCasts_S1x1_S_)
      (Host.divf (Host.reduceAdd (mulf b b) (constant S_ .f32 0x00000000#32) reducesTo_S1x768_S_d0_1 h_S_)
        (constant S_ .f32 0x46000000#32))) (constant S_ .f32 0x322BCC77#32)))

/-- What the host's lines find in a result array of the kernel. -/
theorem arr_after (c : Dev nD) (w : Fin 8) (hw : ∀ w', w ≠ w' → Pipeline.arrRef spec0 w ≠ Pipeline.arrRef spec0 w') :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 (by decide) c (V0 m c) _ w

theorem tail4 (c : Dev nD) : Pipeline.afterTail₀ cfgs (dats m) 0 (V0 m) [hostOps1] c main_v4
    = lossOf (fun _ => ∑ R : Fin 8192, rowE m c R) := by
  unfold Pipeline.afterTail₀
  simp only [List.flatten_cons, List.flatten_nil, List.append_nil]
  after_results
  have e := (arr_after m c 5 (by decide)).trans (final5 m c)
  exact congrArg lossOf e

theorem tail13 (c : Dev nD) : Pipeline.afterTail₀ cfgs (dats m) 0 (V0 m) [hostOps1] c main_v13
    = explOf (fun _ => ∑ R : Fin 8192, rowE m c R) (fun y => ∑ R : Fin 8192, rowX m c (y 1) R) (fun _ => ∑ R : Fin 8192, rowS m c R) := by
  unfold Pipeline.afterTail₀
  simp only [List.flatten_cons, List.flatten_nil, List.append_nil]
  after_results
  have e5 := (arr_after m c 5 (by decide)).trans (final5 m c)
  have e6 := (arr_after m c 6 (by decide)).trans (final6 m c)
  have e7 := (arr_after m c 7 (by decide)).trans (final7 m c)
  have e : ∀ {a a' b b' s s'}, a = a' → b = b' → s = s' → explOf a b s = explOf a' b' s' := by
    rintro _ _ _ _ _ _ rfl rfl rfl; rfl
  exact e e5 e6 e7

/-- The run: the reconstruction, the two numbers, the arguments unchanged. -/
theorem run (g : Dev nD → PrngReg) : θ_run defs (onTc (τ := τ) (main (F := Ideal))) ⟨m, fun _ => 0, g⟩ (fun r => ∀ c : Dev nD,
      r.2.mem ((c.tc : Thread nD τ).loc main_v2_0) = REC (hh m c) (ww m c) (bb m c)
      ∧ r.2.mem ((c.tc : Thread nD τ).loc main_v4) = lossOf (fun _ => ∑ R : Fin 8192, rowE m c R)
      ∧ r.2.mem ((c.tc : Thread nD τ).loc main_v13) = explOf (fun _ => ∑ R : Fin 8192, rowE m c R)
          (fun y => ∑ R : Fin 8192, rowX m c (y 1) R) (fun _ => ∑ R : Fin 8192, rowS m c R)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h.2 c).1 4).trans (final4 m c),
       ((h.2 c).2 main_v4 (Pipeline.mem_restRefs_of main_v4 (by decide) (by decide))).trans (tail4 m c),
       ((h.2 c).2 main_v13 (Pipeline.mem_restRefs_of main_v13 (by decide) (by decide))).trans (tail13 m c), h.1 c⟩)
    (θ_run_and (unchanged m g) (run_main m g))

end Cert.DecodeIdeal.Hand

end
-- ==== Proof.DecodeAlgebra.lean ====
module

public import proofs.«01_k».proof.Proof.DecodeRun
public import proofs.«01_k».proof.Proof.Gen.DecodeRefIdeal.Run

/-! # The decoder call at exact arithmetic: the kernel's two numbers are the reference's

The kernel leaves the total sum of squares `Σ x² - (Σ_q S_q²) / n`, the reference takes `Σ (x - S_q / n)²`. Over the reals
the two are equal; with an infinite entry of `x` one is `-∞` and the other `+∞`, and the quotient is zero on both sides. -/

@[expose] public section

set_option maxRecDepth 16384

noncomputable section

namespace Cert.DecodeIdeal.Hand

open Idealize.ShloMosaic Idealize.ShloMosaic.TcCoe Idealize.SL.Sem
open Cert.DecodeIdeal Cert.DecodeIdeal.Gen

/-! ## Extended reals -/

/-- An extended real that is a real number. -/
def IsReal (a : EReal) : Prop := ∃ r : ℝ, a = (r : EReal)

theorem not_isReal {a : EReal} (h : ¬ IsReal a) : a = ⊤ ∨ a = ⊥ := by
  induction a using EReal.rec with
  | bot => exact Or.inr rfl
  | top => exact Or.inl rfl
  | coe r => exact absurd ⟨r, rfl⟩ h

theorem square_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (mul_self_nonneg r)

theorem square_infinite {a : EReal} (h : ¬ IsReal a) : a * a = ⊤ := by
  rcases not_isReal h with rfl | rfl
  · exact EReal.top_mul_top
  · exact EReal.bot_mul_bot

/-- A sum that is a real number has two real terms. -/
theorem isReal_of_add {a b : EReal} (h : IsReal (a + b)) : IsReal a ∧ IsReal b := by
  obtain ⟨r, hr⟩ := h
  induction a using EReal.rec with
  | bot => rw [EReal.bot_add] at hr; exact absurd hr (EReal.bot_ne_coe r)
  | top =>
    induction b using EReal.rec with
    | bot => rw [EReal.add_bot] at hr; exact absurd hr (EReal.bot_ne_coe r)
    | top => rw [EReal.top_add_top] at hr; exact absurd hr (EReal.top_ne_coe r)
    | coe y => rw [EReal.top_add_coe] at hr; exact absurd hr (EReal.top_ne_coe r)
  | coe x =>
    induction b using EReal.rec with
    | bot => rw [EReal.add_bot] at hr; exact absurd hr (EReal.bot_ne_coe r)
    | top => rw [EReal.coe_add_top] at hr; exact absurd hr (EReal.top_ne_coe r)
    | coe y => exact ⟨⟨x, rfl⟩, ⟨y, rfl⟩⟩

theorem isReal_of_sub {a b : EReal} (h : IsReal (a - b)) : IsReal a := by
  rw [sub_eq_add_neg] at h; exact (isReal_of_add h).1

theorem isReal_of_sum {ι : Type} [DecidableEq ι] (s : Finset ι) (f : ι → EReal) (h : IsReal (∑ i ∈ s, f i)) : ∀ i ∈ s, IsReal (f i) := by
  induction s using Finset.induction_on with
  | empty => intro i hi; exact absurd hi (Finset.notMem_empty i)
  | insert a s ha ih =>
    rw [Finset.sum_insert ha] at h
    obtain ⟨h1, h2⟩ := isReal_of_add h
    intro i hi
    rcases Finset.mem_insert.mp hi with rfl | hi
    · exact h1
    · exact ih h2 i hi

theorem sum_coe {ι : Type} [DecidableEq ι] (s : Finset ι) (f : ι → ℝ) : ∑ i ∈ s, (f i : EReal) = ((∑ i ∈ s, f i : ℝ) : EReal) := by
  induction s using Finset.induction_on with
  | empty => rw [Finset.sum_empty, Finset.sum_empty]; rfl
  | insert a s ha ih => rw [Finset.sum_insert ha, Finset.sum_insert ha, ih, EReal.coe_add]

/-- A sum of terms that are not negative, one of them infinite, is infinite. -/
theorem sum_top {ι : Type} [Fintype ι] (f : ι → EReal) (h0 : ∀ i, 0 ≤ f i) (i : ι) (hi : f i = ⊤) : ∑ j, f j = ⊤ :=
  top_le_iff.mp (hi ▸ Finset.single_le_sum (fun j _ => h0 j) (Finset.mem_univ i))

/-- The square of a difference does not depend on its direction. -/
theorem square_sub_comm (a b : EReal) : (a - b) * (a - b) = (b - a) * (b - a) := by
  induction a using EReal.rec with
  | bot => induction b using EReal.rec with
    | bot => rfl
    | top => simp [sub_eq_add_neg]
    | coe y => simp [sub_eq_add_neg]
  | top => induction b using EReal.rec with
    | bot => simp [sub_eq_add_neg]
    | top => rfl
    | coe y => simp [sub_eq_add_neg]
  | coe x => induction b using EReal.rec with
    | bot => simp [sub_eq_add_neg]
    | top => simp [sub_eq_add_neg]
    | coe y => rw [← EReal.coe_sub, ← EReal.coe_sub, ← EReal.coe_mul, ← EReal.coe_mul]; congr 1; ring

theorem div_top (a : EReal) : Ideal.div a ⊤ = 0 := by
  unfold Ideal.div; rw [if_neg (by simp), EReal.inv_top, mul_zero]

theorem div_bot (a : EReal) : Ideal.div a ⊥ = 0 := by
  unfold Ideal.div; rw [if_neg (by simp), EReal.inv_bot, mul_zero]

/-! ## The total sum of squares -/

/-- Over the reals: the sum of squares about the mean of each column. -/
theorem squares_real {ι κ : Type} [Fintype ι] [Fintype κ] (x : ι → κ → ℝ) (n : ℝ) (hn : (Fintype.card ι : ℝ) = n) (h0 : n ≠ 0) :
    (∑ i, ∑ j, x i j * x i j) - (∑ j, (∑ i, x i j) * (∑ i, x i j)) * (1 / n)
      = ∑ i, ∑ j, (x i j - (∑ i, x i j) * (1 / n)) * (x i j - (∑ i, x i j) * (1 / n)) := by
  rw [Finset.sum_comm, Finset.sum_comm (f := fun i j => (x i j - (∑ i, x i j) * (1 / n)) * (x i j - (∑ i, x i j) * (1 / n))),
    Finset.sum_mul, ← Finset.sum_sub_distrib]
  refine Finset.sum_congr rfl fun j _ => ?_
  generalize hS : ∑ i, x i j = S
  have e : ∀ i, (x i j - S * (1 / n)) * (x i j - S * (1 / n)) = x i j * x i j - 2 * (S * (1 / n)) * x i j + S * (1 / n) * (S * (1 / n)) := fun i => by ring
  rw [Finset.sum_congr rfl fun i _ => e i, Finset.sum_add_distrib, Finset.sum_sub_distrib, ← Finset.mul_sum, hS, Finset.sum_const,
    Finset.card_univ, nsmul_eq_mul, hn]
  field_simp
  ring

/-- The quotient by the total sum of squares, in the kernel's form and in the reference's. -/
theorem div_squares {ι κ : Type} [Fintype ι] [Fintype κ] [DecidableEq ι] [DecidableEq κ] (X : ι → κ → EReal) (n e : ℝ)
    (hn : (Fintype.card ι : ℝ) = n) (h0 : 0 < n) (a : EReal) :
    Ideal.div a ((∑ i, ∑ j, X i j * X i j) - Ideal.div (∑ j, (∑ i, X i j) * (∑ i, X i j)) (n : EReal) + (e : EReal))
      = Ideal.div a ((∑ i, ∑ j, (X i j - Ideal.div (∑ i, X i j) (n : EReal)) * (X i j - Ideal.div (∑ i, X i j) (n : EReal))) + (e : EReal)) := by
  simp only [Ideal.div_coe h0.ne']
  by_cases h : ∀ i j, IsReal (X i j)
  · choose x hx using h
    simp only [hx]
    simp only [← EReal.coe_mul, ← EReal.coe_sub, sum_coe, ← EReal.coe_add]
    rw [squares_real x n hn h0.ne']
  · obtain ⟨i, h⟩ := not_forall.mp h
    obtain ⟨j, h⟩ := not_forall.mp h
    have t1 : ∑ i, ∑ j, X i j * X i j = ⊤ := sum_top _ (fun i => Finset.sum_nonneg fun j _ => square_nonneg _) i
      (sum_top _ (fun j => square_nonneg _) j (square_infinite h))
    have t2 : ∑ j, (∑ i, X i j) * (∑ i, X i j) = ⊤ := sum_top _ (fun j => square_nonneg _) j
      (square_infinite fun hs => h (isReal_of_sum _ _ hs i (Finset.mem_univ i)))
    have t3 : ∑ i, ∑ j, (X i j - (∑ i, X i j) * ((1 / n : ℝ) : EReal)) * (X i j - (∑ i, X i j) * ((1 / n : ℝ) : EReal)) = ⊤ :=
      sum_top _ (fun i => Finset.sum_nonneg fun j _ => square_nonneg _) i
        (sum_top _ (fun j => square_nonneg _) j (square_infinite fun hs => h (isReal_of_sub hs)))
    rw [t1, t2, t3, EReal.top_mul_coe_of_pos (by positivity), EReal.sub_top, EReal.bot_add, EReal.top_add_coe, div_bot, div_top]

theorem lit_n : Ideal.ofBits FTy.f32 1174405120#32 = ((8192 : ℝ) : EReal) := by
  simp [Ideal.ofBits, Ideal.ieee, -EReal.coe_mul]; norm_num

theorem lit_eps : ∃ e : ℝ, Ideal.ofBits FTy.f32 841731191#32 = (e : EReal) := by
  refine ⟨(Ideal.ofBits FTy.f32 841731191#32).toReal, (EReal.coe_toReal ?_ ?_).symm⟩ <;> simp [Ideal.ofBits, Ideal.ieee, -EReal.coe_mul]

/-! ## The two numbers -/

abbrev rLoss (A X : FVec Ideal Cert.DecodeRefIdeal.S8192x768 .f32) : FVec Ideal Cert.DecodeRefIdeal.S_ .f32 :=
  Host.divf (Host.reduceAdd (mulf (subf A X) (subf A X)) (constant Cert.DecodeRefIdeal.S_ .f32 0x00000000#32) Cert.DecodeRefIdeal.Gen.reducesTo_S8192x768_S_d0_1 Cert.DecodeRefIdeal.Gen.h_S_) (constant Cert.DecodeRefIdeal.S_ .f32 0x4AC00000#32)
abbrev rExpl (A X : FVec Ideal Cert.DecodeRefIdeal.S8192x768 .f32) : FVec Ideal Cert.DecodeRefIdeal.S_ .f32 :=
  subf (constant Cert.DecodeRefIdeal.S_ .f32 0x3F800000#32) (Host.divf
    (Host.reduceAdd (mulf (subf X A) (subf X A)) (constant Cert.DecodeRefIdeal.S_ .f32 0x00000000#32) Cert.DecodeRefIdeal.Gen.reducesTo_S8192x768_S_d0_1 Cert.DecodeRefIdeal.Gen.h_S_)
    (addf (Host.reduceAdd (mulf
        (subf X (broadcastInDim Cert.DecodeRefIdeal.S8192x768 ![0, 1] Cert.DecodeRefIdeal.Gen.bcast_S1x768_S8192x768_0_1 (Host.divf (broadcastInDim Cert.DecodeRefIdeal.S1x768 ![1] Cert.DecodeRefIdeal.Gen.bcast_S768_S1x768_1 (Host.reduceAdd X (constant Cert.DecodeRefIdeal.S_ .f32 0x00000000#32) Cert.DecodeRefIdeal.Gen.reducesTo_S8192x768_S768_d0 Cert.DecodeRefIdeal.Gen.h_S_)) (broadcastInDim Cert.DecodeRefIdeal.S1x768 ![] Cert.DecodeRefIdeal.Gen.bcast_S_S1x768 (constant Cert.DecodeRefIdeal.S_ .f32 0x46000000#32)))))
        (subf X (broadcastInDim Cert.DecodeRefIdeal.S8192x768 ![0, 1] Cert.DecodeRefIdeal.Gen.bcast_S1x768_S8192x768_0_1 (Host.divf (broadcastInDim Cert.DecodeRefIdeal.S1x768 ![1] Cert.DecodeRefIdeal.Gen.bcast_S768_S1x768_1 (Host.reduceAdd X (constant Cert.DecodeRefIdeal.S_ .f32 0x00000000#32) Cert.DecodeRefIdeal.Gen.reducesTo_S8192x768_S768_d0 Cert.DecodeRefIdeal.Gen.h_S_)) (broadcastInDim Cert.DecodeRefIdeal.S1x768 ![] Cert.DecodeRefIdeal.Gen.bcast_S_S1x768 (constant Cert.DecodeRefIdeal.S_ .f32 0x46000000#32))))))
        (constant Cert.DecodeRefIdeal.S_ .f32 0x00000000#32) Cert.DecodeRefIdeal.Gen.reducesTo_S8192x768_S_d0_1 Cert.DecodeRefIdeal.Gen.h_S_) (constant Cert.DecodeRefIdeal.S_ .f32 0x322BCC77#32)))

theorem loss_eq (a : EReal) (A X) (ha : a = ∑ i, ∑ j, (A (ix2 i j) - X (ix2 i j)) * (A (ix2 i j) - X (ix2 i j))) :
    lossOf (fun _ => a) = rLoss A X := by
  funext i
  pointwise [lossOf, rLoss]
  rw [ha]

theorem expl_eq (a s : EReal) (b : Fin 768 → EReal) (A X)
    (ha : a = ∑ i, ∑ j, (A (ix2 i j) - X (ix2 i j)) * (A (ix2 i j) - X (ix2 i j)))
    (hs : s = ∑ i, ∑ j, X (ix2 i j) * X (ix2 i j)) (hb : ∀ j, b j = ∑ i, X (ix2 i j)) :
    explOf (fun _ => a) (fun y => b (y 1)) (fun _ => s) = rExpl A X := by
  funext i
  pointwise [explOf, rExpl]
  obtain ⟨e, he⟩ := lit_eps
  have ha' : ∑ i, ∑ j, (X (ix2 i j) - A (ix2 i j)) * (X (ix2 i j) - A (ix2 i j)) = a := by
    rw [ha]; exact Finset.sum_congr rfl fun i _ => Finset.sum_congr rfl fun j _ => square_sub_comm _ _
  rw [lit_n, he, ha', hs, Fin.sum_univ_one]
  simp only [hb]
  exact congrArg (fun q : EReal => 1 - q) (div_squares (fun (i : Fin 8192) (j : Fin 768) => X (ix2 i j)) 8192 e (by simp) (by norm_num) a)

variable (m : (ℓ : Loc nD τ sig) → Buf (Elt Ideal) ℓ)

theorem loss_final (c : Dev nD) : lossOf (fun _ => ∑ R : Fin 8192, rowE m c R)
    = rLoss (REC (hh m c) (ww m c) (bb m c)) (xx m c) :=
  loss_eq _ _ _ (Finset.sum_congr rfl fun R _ => by unfold rowE; rw [dif_pos R.isLt])

theorem expl_final (c : Dev nD) : explOf (fun _ => ∑ R : Fin 8192, rowE m c R) (fun y => ∑ R : Fin 8192, rowX m c (y 1) R)
      (fun _ => ∑ R : Fin 8192, rowS m c R)
    = rExpl (REC (hh m c) (ww m c) (bb m c)) (xx m c) :=
  expl_eq _ _ (fun q => ∑ R : Fin 8192, rowX m c q R) _ _
    (Finset.sum_congr rfl fun R _ => by unfold rowE; rw [dif_pos R.isLt])
    (Finset.sum_congr rfl fun R _ => by unfold rowS; rw [dif_pos R.isLt])
    (fun j => Finset.sum_congr rfl fun R _ => by unfold rowX; rw [dif_pos R.isLt])

/-- A run of the call leaves the reference's three results. -/
theorem run_ref (g : Dev nD → PrngReg) : θ_run defs (onTc (τ := τ) (main (F := Ideal))) ⟨m, fun _ => 0, g⟩ (fun r => ∀ c : Dev nD,
      r.2.mem ((c.tc : Thread nD τ).loc main_v2_0) = REC (hh m c) (ww m c) (bb m c)
      ∧ r.2.mem ((c.tc : Thread nD τ).loc main_v4) = rLoss (REC (hh m c) (ww m c) (bb m c)) (xx m c)
      ∧ r.2.mem ((c.tc : Thread nD τ).loc main_v13) = rExpl (REC (hh m c) (ww m c) (bb m c)) (xx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1, (h c).2.1.trans (loss_final m c), (h c).2.2.1.trans (expl_final m c), (h c).2.2.2⟩)
    (run m g)

end Cert.DecodeIdeal.Hand

end
-- ==== Proof.lean ====
module

public import proofs.«01_k».proof.Defs
public import proofs.«01_k».proof.Proof.Gen.Select
public import proofs.«01_k».proof.Proof.Gen.Select.Skeleton
public import proofs.«01_k».proof.Proof.Gen.Select.Loops
public import proofs.«01_k».proof.Proof.Gen.Select.Launch
public import proofs.«01_k».proof.Proof.Gen.Select.Points
public import proofs.«01_k».proof.Proof.Gen.Select.Frame
public import proofs.«01_k».proof.Proof.Gen.Encode
public import proofs.«01_k».proof.Proof.Gen.Encode.Skeleton
public import proofs.«01_k».proof.Proof.Gen.Encode.Launch
public import proofs.«01_k».proof.Proof.Gen.Encode.Points
public import proofs.«01_k».proof.Proof.Gen.Encode.Frame
public import proofs.«01_k».proof.Proof.Gen.EncodeIdeal
public import proofs.«01_k».proof.Proof.Gen.EncodeIdeal.Skeleton
public import proofs.«01_k».proof.Proof.Gen.EncodeIdeal.Launch
public import proofs.«01_k».proof.Proof.Gen.EncodeIdeal.Points
public import proofs.«01_k».proof.Proof.Gen.EncodeIdeal.Frame
public import proofs.«01_k».proof.Proof.Gen.EncodeRefIdeal
public import proofs.«01_k».proof.Proof.Gen.Decode
public import proofs.«01_k».proof.Proof.Gen.Decode.Skeleton
public import proofs.«01_k».proof.Proof.Gen.Decode.Launch
public import proofs.«01_k».proof.Proof.Gen.Decode.Points
public import proofs.«01_k».proof.Proof.Gen.Decode.Frame
public import proofs.«01_k».proof.Proof.Gen.DecodeIdeal
public import proofs.«01_k».proof.Proof.Gen.DecodeIdeal.Skeleton
public import proofs.«01_k».proof.Proof.Gen.DecodeIdeal.Launch
public import proofs.«01_k».proof.Proof.Gen.DecodeIdeal.Points
public import proofs.«01_k».proof.Proof.Gen.DecodeIdeal.Frame
public import proofs.«01_k».proof.Proof.Gen.EncodeIdeal.Value
public import proofs.«01_k».proof.Proof.Gen.EncodeRefIdeal.Run
public import proofs.«01_k».proof.Proof.Gen.DecodeRefIdeal
public import proofs.«01_k».proof.Proof.Gen.DecodeRefIdeal.Run
public import proofs.«01_k».proof.Proof.SelectFrame
public import proofs.«01_k».proof.Proof.SelectValue
public import proofs.«01_k».proof.Proof.Gen.SelectRef
public import proofs.«01_k».proof.Proof.Gen.SelectRef.Run
public import proofs.«01_k».proof.Proof.Gen.Pre_unsigned_untied
public import proofs.«01_k».proof.Proof.EncodeValue
public import proofs.«01_k».proof.Proof.DecodeAlgebra
public import Idealize.ShloMosaic.Lib.Claim
public import Idealize.ShloMosaic.Adequacy
public import Idealize.ShloMosaic.Init

@[expose] public section

noncomputable section

namespace Cert.Proof

open Idealize.ShloMosaic Idealize.SL.Sem Cert.Select

theorem encode_ref_frame : letI := Cert.EncodeRefIdeal.Gen.facts; quiescent_EncodeRefIdeal := fun m g _ =>
  (θ_run _ _ _).mono (fun r h => ⟨fun c => (h c).2, sem_eq_zero_of_no_sems rfl r.2⟩) (Cert.EncodeRefIdeal.Value.run m g)

theorem encode_algebraic : letI := Cert.EncodeIdeal.Gen.facts; letI := Cert.EncodeRefIdeal.Gen.facts;
    algebraic_EncodeIdeal_EncodeRefIdeal := by
  pair_intro
  · run_from Cert.EncodeIdeal.Gen.run_main m g
  · run_from Cert.EncodeRefIdeal.Value.run m' g'
    exact (Cert.EncodeIdeal.Hand.final m c).symm

theorem decode_ref_frame : letI := Cert.DecodeRefIdeal.Gen.facts; quiescent_DecodeRefIdeal := fun m g _ =>
  (θ_run _ _ _).mono (fun r h => ⟨fun c => (h c).2.2.2, sem_eq_zero_of_no_sems rfl r.2⟩) (Cert.DecodeRefIdeal.Value.run m g)

theorem decode_algebraic : letI := Cert.DecodeIdeal.Gen.facts; letI := Cert.DecodeRefIdeal.Gen.facts;
    algebraic_DecodeIdeal_DecodeRefIdeal := by
  intro m g m' g' _ hm
  refine ⟨fun c => Cert.DecodeIdeal.Hand.REC (Cert.DecodeIdeal.Hand.hh m c) (Cert.DecodeIdeal.Hand.ww m c) (Cert.DecodeIdeal.Hand.bb m c),
    fun c => Cert.DecodeIdeal.Hand.rLoss (Cert.DecodeIdeal.Hand.REC (Cert.DecodeIdeal.Hand.hh m c) (Cert.DecodeIdeal.Hand.ww m c) (Cert.DecodeIdeal.Hand.bb m c)) (Cert.DecodeIdeal.Hand.xx m c),
    fun c => Cert.DecodeIdeal.Hand.rExpl (Cert.DecodeIdeal.Hand.REC (Cert.DecodeIdeal.Hand.hh m c) (Cert.DecodeIdeal.Hand.ww m c) (Cert.DecodeIdeal.Hand.bb m c)) (Cert.DecodeIdeal.Hand.xx m c),
    Cert.DecodeIdeal.Hand.run_ref m g, ?_⟩
  refine (θ_run _ _ _).mono (fun r h c => ?_) (Cert.DecodeRefIdeal.Value.run m' g')
  obtain ⟨h0, h1, h2, hr⟩ := h c
  obtain ⟨e0, e1, e2, e3⟩ := hm c
  rw [e0, e1, e3] at h0
  rw [e0, e1, e2, e3] at h1 h2
  exact ⟨h0, h1, h2, hr⟩

theorem select_ref_frame : letI := Cert.SelectRef.Gen.facts; letI := Cert.Pre_unsigned_untied.Gen.facts; quiescent_SelectRef := fun m g _ =>
  (θ_run _ _ _).mono (fun r h => ⟨fun c => (h c).2.2, sem_eq_zero_of_no_sems rfl r.2⟩) (Cert.SelectRef.Value.run m g)

/-- The selection's two results, bit for bit. The mean count leans on one assumed rule of the semantics (N22): a sum of f32 patterns of
    whole numbers that stays below 2^24 is the pattern of their sum. -/
theorem select_bitexact : letI := Cert.Select.Gen.facts; letI := Cert.SelectRef.Gen.facts; letI := Cert.Pre_unsigned_untied.Gen.facts;
    bitexact_Select_SelectRef_pre_unsigned_untied := by
  intro m g m' g' hP hm
  refine ⟨_, _, Cert.Select.Hand.run m g hP, ?_⟩
  refine (θ_run _ _ _).mono (fun r h c => ?_) (Cert.SelectRef.Value.run m' g')
  obtain ⟨h0, h1, hr⟩ := h c
  rw [hm c] at h0 h1
  exact ⟨h0, h1.trans (Cert.Select.Hand.mean_eq _), hr⟩

theorem claim : Cert.Claim := ⟨Cert.Select.Gen.facts, Cert.SelectRef.Gen.facts, Cert.Encode.Gen.facts, Cert.EncodeIdeal.Gen.facts,
  Cert.EncodeRefIdeal.Gen.facts, Cert.Decode.Gen.facts, Cert.DecodeIdeal.Gen.facts, Cert.DecodeRefIdeal.Gen.facts,
  Cert.Pre_unsigned_untied.Gen.facts,
  fun m g _ => Cert.Select.Hand.frame m g,
  fun m g _ => Cert.Select.Hand.frame m g,
  select_ref_frame,
  fun m g _ => Cert.Encode.Gen.frame m g,
  fun m g _ => Cert.EncodeIdeal.Gen.frame m g,
  encode_ref_frame,
  fun m g _ => Cert.Decode.Gen.frame m g,
  fun m g _ => Cert.DecodeIdeal.Gen.frame m g,
  decode_ref_frame,
  select_bitexact, trivial, encode_algebraic, trivial, decode_algebraic⟩

end Cert.Proof

end
